-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x16384x4x2x64 : Shape := ⟨5, ![1, 16384, 4, 2, 64]⟩
abbrev S1x16384x4x128 : Shape := ⟨4, ![1, 16384, 4, 128]⟩
abbrev S1x4x64 : Shape := ⟨3, ![1, 4, 64]⟩
abbrev S1x128 : Shape := ⟨2, ![1, 128]⟩
abbrev S_ : Shape := ⟨0, ![]⟩

class Facts : Prop where
  bcast_S_S1x16384x4x2x64 : S_.BroadcastsInDim S1x16384x4x2x64 (![] : Fin 0 → Fin S1x16384x4x2x64.rank)
  reducesTo_S1x16384x4x2x64_S_d0_1_2_3_4 : S1x16384x4x2x64.ReducesTo [0, 1, 2, 3, 4] S_
  h_S_ : 0 < S_.numel
  bcast_S_S1x16384x4x128 : S_.BroadcastsInDim S1x16384x4x128 (![] : Fin 0 → Fin S1x16384x4x128.rank)
  reducesTo_S1x16384x4x128_S_d0_1_2_3 : S1x16384x4x128.ReducesTo [0, 1, 2, 3] S_
  bcast_S_S1x4x64 : S_.BroadcastsInDim S1x4x64 (![] : Fin 0 → Fin S1x4x64.rank)
  reducesTo_S1x4x64_S_d0_1_2 : S1x4x64.ReducesTo [0, 1, 2] S_

variable [Facts]

def fn_part1 {F : FTy → Type} [FloatOps F] (main_v13 : IVec S_ 1) (main_v16 : IVec S1x4x64 1) : IVec S_ 1 :=
  let main_c_5 : IVec S_ 1 := constantI S_ 1 1#1
  let main_v17 : IVec S_ 1 := (fun x v => Host.reduce IntOp.andi x v reducesTo_S1x4x64_S_d0_1_2 h_S_) main_v16 main_c_5
  let main_v18 : IVec S_ 1 := andi main_v13 main_v17
  main_v18

def fn {F : FTy → Type} [FloatOps F] (main_arg0 : FVec F S1x16384x4x2x64 .f32) (main_arg1 : FVec F S1x16384x4x2x64 .f32) (main_arg2 : FVec F S1x16384x4x128 .f32) (main_arg3 : FVec F S1x4x64 .f32) (main_arg4 : FVec F S1x128 .f32) : IVec S_ 1 :=
  let main_v0 : FVec F S1x16384x4x2x64 .f32 := Host.absf main_arg0
  let main_cst : FVec F S_ .f32 := constant S_ .f32 0x7F800000#32
  let main_v1 : FVec F S1x16384x4x2x64 .f32 := broadcastInDim S1x16384x4x2x64 ![] bcast_S_S1x16384x4x2x64 main_cst
  let main_v2 : IVec S1x16384x4x2x64 1 := cmpf .olt main_v0 main_v1
  let main_c : IVec S_ 1 := constantI S_ 1 1#1
  let main_v3 : IVec S_ 1 := (fun x v => Host.reduce IntOp.andi x v reducesTo_S1x16384x4x2x64_S_d0_1_2_3_4 h_S_) main_v2 main_c
  let main_v4 : FVec F S1x16384x4x2x64 .f32 := Host.absf main_arg1
  let main_cst_0 : FVec F S_ .f32 := constant S_ .f32 0x7F800000#32
  let main_v5 : FVec F S1x16384x4x2x64 .f32 := broadcastInDim S1x16384x4x2x64 ![] bcast_S_S1x16384x4x2x64 main_cst_0
  let main_v6 : IVec S1x16384x4x2x64 1 := cmpf .olt main_v4 main_v5
  let main_c_1 : IVec S_ 1 := constantI S_ 1 1#1
  let main_v7 : IVec S_ 1 := (fun x v => Host.reduce IntOp.andi x v reducesTo_S1x16384x4x2x64_S_d0_1_2_3_4 h_S_) main_v6 main_c_1
  let main_v8 : IVec S_ 1 := andi main_v3 main_v7
  let main_v9 : FVec F S1x16384x4x128 .f32 := Host.absf main_arg2
  let main_cst_2 : FVec F S_ .f32 := constant S_ .f32 0x7F800000#32
  let main_v10 : FVec F S1x16384x4x128 .f32 := broadcastInDim S1x16384x4x128 ![] bcast_S_S1x16384x4x128 main_cst_2
  let main_v11 : IVec S1x16384x4x128 1 := cmpf .olt main_v9 main_v10
  let main_c_3 : IVec S_ 1 := constantI S_ 1 1#1
  let main_v12 : IVec S_ 1 := (fun x v => Host.reduce IntOp.andi x v reducesTo_S1x16384x4x128_S_d0_1_2_3 h_S_) main_v11 main_c_3
  let main_v13 : IVec S_ 1 := andi main_v8 main_v12
  let main_v14 : FVec F S1x4x64 .f32 := Host.absf main_arg3
  let main_cst_4 : FVec F S_ .f32 := constant S_ .f32 0x7F800000#32
  let main_v15 : FVec F S1x4x64 .f32 := broadcastInDim S1x4x64 ![] bcast_S_S1x4x64 main_cst_4
  let main_v16 : IVec S1x4x64 1 := cmpf .olt main_v14 main_v15
  fn_part1 (F := F) main_v13 main_v16
-- ==== Kernel.lean ====
abbrev S1x16384x4x2x64 : Shape := ⟨5, ![1, 16384, 4, 2, 64]⟩
abbrev S1x16384x4x128 : Shape := ⟨4, ![1, 16384, 4, 128]⟩
abbrev S1x4x64 : Shape := ⟨3, ![1, 4, 64]⟩
abbrev S1x128 : Shape := ⟨2, ![1, 128]⟩
abbrev S528 : Shape := ⟨1, ![528]⟩
abbrev S16384x512 : Shape := ⟨2, ![16384, 512]⟩
abbrev S512x16384 : Shape := ⟨2, ![512, 16384]⟩
abbrev S4x64 : Shape := ⟨2, ![4, 64]⟩
abbrev S128 : Shape := ⟨1, ![128]⟩
abbrev S128x1 : Shape := ⟨2, ![128, 1]⟩
abbrev S512x512 : Shape := ⟨2, ![512, 512]⟩
abbrev S1 : Shape := ⟨1, ![1]⟩
abbrev S8x512 : Shape := ⟨2, ![8, 512]⟩
abbrev S8x144x512 : Shape := ⟨3, ![8, 144, 512]⟩
abbrev S64x512 : Shape := ⟨2, ![64, 512]⟩
abbrev S128x512 : Shape := ⟨2, ![128, 512]⟩
abbrev S1x512 : Shape := ⟨2, ![1, 512]⟩
abbrev S256x128 : Shape := ⟨2, ![256, 128]⟩
abbrev S256x512 : Shape := ⟨2, ![256, 512]⟩
abbrev S512 : Shape := ⟨1, ![512]⟩
abbrev S1x144x512 : Shape := ⟨3, ![1, 144, 512]⟩
abbrev S144x512 : Shape := ⟨2, ![144, 512]⟩
abbrev S128x256 : Shape := ⟨2, ![128, 256]⟩
abbrev S16x256 : Shape := ⟨2, ![16, 256]⟩
abbrev S144x256 : Shape := ⟨2, ![144, 256]⟩
abbrev S1x64 : Shape := ⟨2, ![1, 64]⟩
abbrev S1x1 : Shape := ⟨2, ![1, 1]⟩

abbrev nBuf : Space → Nat
  | .hbm => 17
  | .vmem => 16
  | .smem => 2
  | _ => 0

abbrev bufTy : (tb : Table) → Fin (tcTables nBuf tb) → BufTy
  | .hbm, ⟨0, _⟩ => ⟨S1x16384x4x2x64, .f32⟩
  | .hbm, ⟨1, _⟩ => ⟨S1x16384x4x2x64, .f32⟩
  | .hbm, ⟨2, _⟩ => ⟨S1x16384x4x128, .f32⟩
  | .hbm, ⟨3, _⟩ => ⟨S1x4x64, .f32⟩
  | .hbm, ⟨4, _⟩ => ⟨S1x128, .f32⟩
  | .hbm, ⟨5, _⟩ => ⟨S16384x512, .f32⟩
  | .hbm, ⟨6, _⟩ => ⟨S512x16384, .f32⟩
  | .hbm, ⟨7, _⟩ => ⟨S512x16384, .bf16⟩
  | .hbm, ⟨8, _⟩ => ⟨S16384x512, .f32⟩
  | .hbm, ⟨9, _⟩ => ⟨S512x16384, .f32⟩
  | .hbm, ⟨10, _⟩ => ⟨S512x16384, .bf16⟩
  | .hbm, ⟨11, _⟩ => ⟨S16384x512, .f32⟩
  | .hbm, ⟨12, _⟩ => ⟨S16384x512, .bf16⟩
  | .hbm, ⟨13, _⟩ => ⟨S4x64, .f32⟩
  | .hbm, ⟨14, _⟩ => ⟨S128, .f32⟩
  | .hbm, ⟨15, _⟩ => ⟨S128x1, .f32⟩
  | .hbm, ⟨16, _⟩ => ⟨S512x16384, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S4x64, .f32⟩
  | .local _ .vmem, ⟨7, _⟩ => ⟨S128x1, .f32⟩
  | .local _ .vmem, ⟨8, _⟩ => ⟨S512x512, .bf16⟩
  | .local _ .vmem, ⟨9, _⟩ => ⟨S512x512, .bf16⟩
  | .local _ .vmem, ⟨10, _⟩ => ⟨S8x512, .f32⟩
  | .local _ .vmem, ⟨11, _⟩ => ⟨S8x144x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .smem, ⟨0, _⟩ => ⟨S528, .i32⟩
  | .local _ .smem, ⟨1, _⟩ => ⟨S528, .i32⟩
  | _, _ => ⟨S1x16384x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![528], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (v1 : BitVec 32) (v3 : BitVec 32) : BitVec 1 :=
  let c1_i32_9 : BitVec 32 := 1#32
  let v31 : BitVec 32 := Scalar.addi v1 c1_i32_9
  let c512_i32_10 : BitVec 32 := 512#32
  let v32 : BitVec 32 := Scalar.muli v31 c512_i32_10
  let c1_i32_11 : BitVec 32 := 1#32
  let v33 : BitVec 32 := Scalar.subi v32 c1_i32_11
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c512_i32_12 : BitVec 32 := 512#32
  let c0_i32_15 : BitVec 32 := 0#32
  let v40 : BitVec 1 := Scalar.cmpi .sgt c512_i32_12 c0_i32_15
  let v41 : BitVec 32 := Scalar.extui v40
  let c0_i32_16 : BitVec 32 := 0#32
  let v42 : BitVec 1 := Scalar.cmpi .slt c512_i32_12 c0_i32_16
  let v43 : BitVec 32 := Scalar.extui v42
  let v44 : BitVec 32 := Scalar.subi v41 v43
  let v45 : BitVec 1 := Scalar.cmpi .ne v39 v44
  let v46 : BitVec 32 := Scalar.remsi v33 c512_i32_12
  let c0_i32_17 : BitVec 32 := 0#32
  let v47 : BitVec 1 := Scalar.cmpi .ne v46 c0_i32_17
  let v48 : BitVec 1 := Scalar.andi v45 v47
  let v34 : BitVec 32 := Scalar.divsi v33 c512_i32_12
  let c1_i32_18 : BitVec 32 := 1#32
  let v49 : BitVec 32 := Scalar.subi v34 c1_i32_18
  let v50 : BitVec 32 := Scalar.select v48 v49 v34
  let v51 : BitVec 1 := Scalar.cmpi .eq v3 v50
  let v52 : BitVec 32 := Scalar.extui v51
  let c0_i32_19 : BitVec 32 := 0#32
  let v53 : BitVec 1 := Scalar.cmpi .ne v52 c0_i32_19
  v53

def cc0_transform_0 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S528) ![v0.toNat] S1.size (k0_off1_inb i)) numel1_S1
  let c0_i32 : BitVec 32 := 0#32
  let c0_i32_0 : BitVec 32 := 0#32
  ![c0_i32.toNat, v1.toNat]

def cc0_transform_1 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S528) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S528) ![v0.toNat] S1.size (k0_off1_inb i)) numel1_S1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S528) ![v0.toNat] S1.size (k0_off1_inb i)) numel1_S1
  let c0_i32 : BitVec 32 := 0#32
  let c0_i32_0 : BitVec 32 := 0#32
  ![c0_i32.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | "scale" => some (((1 / 8) * (Real.log 2)⁻¹ : ℝ) : EReal)
  | _ => none
-- ==== ReferenceIdeal.lean ====
abbrev S1x16384x4x2x64 : Shape := ⟨5, ![1, 16384, 4, 2, 64]⟩
abbrev S1x16384x4x128 : Shape := ⟨4, ![1, 16384, 4, 128]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S16384 : Shape := ⟨1, ![16384]⟩
abbrev S1x4x2x16384x16384 : Shape := ⟨5, ![1, 4, 2, 16384, 16384]⟩
abbrev S1x16384 : Shape := ⟨2, ![1, 16384]⟩
abbrev S16384x1 : Shape := ⟨2, ![16384, 1]⟩
abbrev S16384x16384 : Shape := ⟨2, ![16384, 16384]⟩
abbrev S1x4x2x16384 : Shape := ⟨4, ![1, 4, 2, 16384]⟩
abbrev S1x4x2x16384x1 : Shape := ⟨5, ![1, 4, 2, 16384, 1]⟩
abbrev S1x4x1x16384x16384 : Shape := ⟨5, ![1, 4, 1, 16384, 16384]⟩
abbrev S1x4x16384x16384 : Shape := ⟨4, ![1, 4, 16384, 16384]⟩
abbrev S1x4x128x16384 : Shape := ⟨4, ![1, 4, 128, 16384]⟩
abbrev S128 : Shape := ⟨1, ![128]⟩
abbrev S1x16384x4 : Shape := ⟨3, ![1, 16384, 4]⟩
abbrev S1x16384x4x1 : Shape := ⟨4, ![1, 16384, 4, 1]⟩
abbrev S1x1x1x128 : Shape := ⟨4, ![1, 1, 1, 128]⟩
abbrev S16384x512 : Shape := ⟨2, ![16384, 512]⟩
abbrev S512x16384 : Shape := ⟨2, ![512, 16384]⟩

abbrev nBuf : Space → Nat
  | .hbm => 92
  | .vmem => 0
  | .smem => 0
  | _ => 0

abbrev bufTy : (tb : Table) → Fin (tcTables nBuf tb) → BufTy
  | .hbm, ⟨0, _⟩ => ⟨S1x16384x4x2x64, .f32⟩
  | .hbm, ⟨1, _⟩ => ⟨S1x16384x4x2x64, .f32⟩
  | .hbm, ⟨2, _⟩ => ⟨S1x16384x4x128, .f32⟩
  | .hbm, ⟨3, _⟩ => ⟨S1x4x64, .f32⟩
  | .hbm, ⟨4, _⟩ => ⟨S1x128, .f32⟩
  | .hbm, ⟨5, _⟩ => ⟨S4x64, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16384, .i32⟩
  | .hbm, ⟨26, _⟩ => ⟨S16384, .i32⟩
  | .hbm, ⟨27, _⟩ => ⟨S1x4x2x16384x16384, .f32⟩
  | .hbm, ⟨28, _⟩ => ⟨S_, .f32⟩
  | .hbm, ⟨29, _⟩ => ⟨S1x4x2x16384x16384, .f32⟩
  | .hbm, ⟨30, _⟩ => ⟨S1x4x2x16384x16384, .f32⟩
  | .hbm, ⟨31, _⟩ => ⟨S1x16384, .i32⟩
  | .hbm, ⟨32, _⟩ => ⟨S16384x1, .i32⟩
  | .hbm, ⟨33, _⟩ => ⟨S16384x16384, .i32⟩
  | .hbm, ⟨34, _⟩ => ⟨S16384x16384, .i32⟩
  | .hbm, ⟨35, _⟩ => ⟨S16384x16384, .i1⟩
  | .hbm, ⟨36, _⟩ => ⟨S_, .f32⟩
  | .hbm, ⟨37, _⟩ => ⟨S_, .f32⟩
  | .hbm, ⟨38, _⟩ => ⟨S1x4x2x16384x16384, .i1⟩
  | .hbm, ⟨39, _⟩ => ⟨S1x4x2x16384x16384, .f32⟩
  | .hbm, ⟨40, _⟩ => ⟨S1x4x2x16384x16384, .f32⟩
  | .hbm, ⟨41, _⟩ => ⟨S_, .f32⟩
  | .hbm, ⟨42, _⟩ => ⟨S1x4x2x16384, .f32⟩
  | .hbm, ⟨43, _⟩ => ⟨S1x4x2x16384x1, .f32⟩
  | .hbm, ⟨44, _⟩ => ⟨S1x4x2x16384x16384, .f32⟩
  | .hbm, ⟨45, _⟩ => ⟨S1x4x2x16384x16384, .f32⟩
  | .hbm, ⟨46, _⟩ => ⟨S1x4x2x16384x16384, .f32⟩
  | .hbm, ⟨47, _⟩ => ⟨S_, .f32⟩
  | .hbm, ⟨48, _⟩ => ⟨S_, .f32⟩
  | .hbm, ⟨49, _⟩ => ⟨S1x4x2x16384x16384, .i1⟩
  | .hbm, ⟨50, _⟩ => ⟨S1x4x2x16384x16384, .f32⟩
  | .hbm, ⟨51, _⟩ => ⟨S1x4x2x16384x16384, .f32⟩
  | .hbm, ⟨52, _⟩ => ⟨S_, .f32⟩
  | .hbm, ⟨53, _⟩ => ⟨S1x4x2x16384, .f32⟩
  | .hbm, ⟨54, _⟩ => ⟨S1x4x2x16384x1, .f32⟩
  | .hbm, ⟨55, _⟩ => ⟨S_, .f32⟩
  | .hbm, ⟨56, _⟩ => ⟨S1x4x2x16384x1, .f32⟩
  | .hbm, ⟨57, _⟩ => ⟨S1x4x2x16384x1, .f32⟩
  | .hbm, ⟨58, _⟩ => ⟨S1x4x2x16384x16384, .f32⟩
  | .hbm, ⟨59, _⟩ => ⟨S1x4x2x16384x16384, .f32⟩
  | .hbm, ⟨60, _⟩ => ⟨S1x4x1x16384x16384, .f32⟩
  | .hbm, ⟨61, _⟩ => ⟨S1x4x16384x16384, .f32⟩
  | .hbm, ⟨62, _⟩ => ⟨S1x4x1x16384x16384, .f32⟩
  | .hbm, ⟨63, _⟩ => ⟨S1x4x16384x16384, .f32⟩
  | .hbm, ⟨64, _⟩ => ⟨S1x4x16384x16384, .f32⟩
  | .hbm, ⟨65, _⟩ => ⟨S1x4x16384x16384, .f32⟩
  | .hbm, ⟨66, _⟩ => ⟨S1x4x16384x16384, .f32⟩
  | .hbm, ⟨67, _⟩ => ⟨S1x4x128x16384, .f32⟩
  | .hbm, ⟨68, _⟩ => ⟨S1x16384x4x128, .f32⟩
  | .hbm, ⟨69, _⟩ => ⟨S128, .f32⟩
  | .hbm, ⟨70, _⟩ => ⟨S1x16384x4x128, .f32⟩
  | .hbm, ⟨71, _⟩ => ⟨S_, .f32⟩
  | .hbm, ⟨72, _⟩ => ⟨S1x16384x4, .f32⟩
  | .hbm, ⟨73, _⟩ => ⟨S1x16384x4x1, .f32⟩
  | .hbm, ⟨74, _⟩ => ⟨S_, .f32⟩
  | .hbm, ⟨75, _⟩ => ⟨S1x16384x4x1, .f32⟩
  | .hbm, ⟨76, _⟩ => ⟨S1x16384x4x1, .f32⟩
  | .hbm, ⟨77, _⟩ => ⟨S_, .f32⟩
  | .hbm, ⟨78, _⟩ => ⟨S1x16384x4x1, .f32⟩
  | .hbm, ⟨79, _⟩ => ⟨S1x16384x4x1, .f32⟩
  | .hbm, ⟨80, _⟩ => ⟨S1x16384x4x1, .f32⟩
  | .hbm, ⟨81, _⟩ => ⟨S1x16384x4x128, .f32⟩
  | .hbm, ⟨82, _⟩ => ⟨S1x16384x4x128, .f32⟩
  | .hbm, ⟨83, _⟩ => ⟨S1x1x1x128, .f32⟩
  | .hbm, ⟨84, _⟩ => ⟨S1x16384x4x128, .f32⟩
  | .hbm, ⟨85, _⟩ => ⟨S1x16384x4x128, .f32⟩
  | .hbm, ⟨86, _⟩ => ⟨S_, .f32⟩
  | .hbm, ⟨87, _⟩ => ⟨S1x16384x4x128, .f32⟩
  | .hbm, ⟨88, _⟩ => ⟨S1x16384x4x128, .f32⟩
  | .hbm, ⟨89, _⟩ => ⟨S16384x512, .f32⟩
  | .hbm, ⟨90, _⟩ => ⟨S512x16384, .f32⟩
  | .hbm, ⟨91, _⟩ => ⟨S512x16384, .bf16⟩
  | _, _ => ⟨S1x16384x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Proof.Words.lean ====
/- The buffers the attention body works on, the words it branches on, and what a run of it is given. -/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-- Over the machine's own numbers a named constant is the number its bits write. -/
instance namedBits : Named Bits where
  named _ _ {φ} bits := FloatOps.ofBits φ bits

/-! ## The buffers and words every path of the body names -/

/-- The two tables of block numbers, query block first. -/
abbrev tI : Memref sig .tc .smem S528 .i32 := Memref.whole main_c
abbrev tJ : Memref sig .tc .smem S528 .i32 := Memref.whole main_c_0
/-- The running maxima, the accumulators, and the four buffers of scores. -/
abbrev sM : Memref sig .tc .vmem S8x512 .f32 := Memref.whole cc0_scratch0
abbrev sA : Memref sig .tc .vmem S8x144x512 .f32 := Memref.whole cc0_scratch1
abbrev s2 : Memref sig .tc .vmem S512x512 .f32 := Memref.whole cc0_scratch2
abbrev s3 : Memref sig .tc .vmem S512x512 .f32 := Memref.whole cc0_scratch3
abbrev s4 : Memref sig .tc .vmem S512x512 .f32 := Memref.whole cc0_scratch4
abbrev s5 : Memref sig .tc .vmem S512x512 .f32 := Memref.whole cc0_scratch5

local notation "𝕄" => MT nD τ sig Unit (Elt F) ℕ (UR sig nD τ) ℕ

/-- The query block and the key block a point works on, as its tables hold them. -/
abbrev wI (T0 : S528.Idx → Elt F .i32) (i : grid0.Coords) : BitVec 32 :=
  View.readAt (Elt F) tI.view (Rect.unit (s := S528) (k0_off1 i) S1.size (k0_off1_inb i)).toLoadRect T0 (Shape.Idx.first (numel1_S1.symm ▸ Nat.one_pos))
abbrev wJ (T1 : S528.Idx → Elt F .i32) (i : grid0.Coords) : BitVec 32 :=
  View.readAt (Elt F) tJ.view (Rect.unit (s := S528) (k0_off1 i) S1.size (k0_off1_inb i)).toLoadRect T1 (Shape.Idx.first (numel1_S1.symm ▸ Nat.one_pos))
/-- The key block the diagonal of query block `a` begins in. -/
abbrev diag (a : BitVec 32) : BitVec 32 := (Scalar.select (Scalar.andi (Scalar.cmpi .ne (Scalar.subi (Scalar.extui (Scalar.cmpi .sgt (Scalar.muli a 512#32) 0#32)) (Scalar.extui (Scalar.cmpi .slt (Scalar.muli a 512#32) 0#32))) (Scalar.subi (Scalar.extui (Scalar.cmpi .sgt 512#32 0#32)) (Scalar.extui (Scalar.cmpi .slt 512#32 0#32)))) (Scalar.cmpi .ne (Scalar.remsi (Scalar.muli a 512#32) 512#32) 0#32)) (Scalar.subi (Scalar.divsi (Scalar.muli a 512#32) 512#32) 1#32) (Scalar.divsi (Scalar.muli a 512#32) 512#32))
/-- The branches' conditions: the first key block; one wholly below the diagonal; one that meets it. -/
abbrev isFirst (b : BitVec 32) : BitVec 1 := Scalar.cmpi .ne (Scalar.extui (Scalar.cmpi .eq b 0#32)) 0#32
abbrev isBelow (a b : BitVec 32) : BitVec 1 := Scalar.cmpi .ne (Scalar.extui (Scalar.cmpi .slt b (diag a))) 0#32
abbrev isDiag (a b : BitVec 32) : BitVec 1 := Scalar.cmpi .ne (Scalar.extui (Scalar.cmpi .sge b (diag a))) 0#32

variable (c : Dev nD) (i : grid0.Coords)
  (arg3 : Memref sig .tc .vmem S512x512 .bf16) (harg3 : arg3.IsWhole) (arg4 : Memref sig .tc .vmem S512x512 .bf16) (harg4 : arg4.IsWhole)
  (arg5 : Memref sig .tc .vmem S512x512 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S512x512 .bf16) (harg8 : arg8.IsWhole)
  (T0 T1 : S528.Idx → Elt F .i32) (x0 x1 x2 : S512x512.Idx → Elt F .bf16) (x3 : S4x64.Idx → Elt F .f32) (x4 : S128x1.Idx → Elt F .f32)

/-- What the body only reads: the five input blocks and half of each table. -/
abbrev reads : sProp 𝕄 := iprop((arg3.view.loc (c : Thread nD τ) ↦[arg3.view.set]{fullShare} arg3.view.rep x0)
  ∗ (arg4.view.loc (c : Thread nD τ) ↦[arg4.view.set]{fullShare} arg4.view.rep x1)
  ∗ (arg5.view.loc (c : Thread nD τ) ↦[arg5.view.set]{fullShare} arg5.view.rep x2)
  ∗ (arg6.view.loc (c : Thread nD τ) ↦[arg6.view.set]{fullShare} arg6.view.rep x3)
  ∗ (arg7.view.loc (c : Thread nD τ) ↦[arg7.view.set]{fullShare} arg7.view.rep x4)
  ∗ (tI.view.loc (c : Thread nD τ) ↦{fullShare.right} T0)
  ∗ (tJ.view.loc (c : Thread nD τ) ↦{fullShare.right} T1))

/-- The six scratch buffers at given contents. -/
abbrev scr (a0 : S8x512.Idx → Elt F .f32) (a1 : S8x144x512.Idx → Elt F .f32) (a2 a3 a4 a5 : S512x512.Idx → Elt F .f32) : sProp 𝕄 :=
  iprop((sM.view.loc (c : Thread nD τ) ↦{fullShare} a0) ∗ (sA.view.loc (c : Thread nD τ) ↦{fullShare} a1)
  ∗ (s2.view.loc (c : Thread nD τ) ↦{fullShare} a2) ∗ (s3.view.loc (c : Thread nD τ) ↦{fullShare} a3)
  ∗ (s4.view.loc (c : Thread nD τ) ↦{fullShare} a4) ∗ (s5.view.loc (c : Thread nD τ) ↦{fullShare} a5))

/-- The body, run on these buffers. -/
abbrev runs (K : PUnit → sProp 𝕄) : sProp 𝕄 :=
  wp frame (wpE (defs₀ (F := F)) Variants.none c none) Set.univ (cc0_diff_prompt i tI (Memref.isWhole_whole _) tJ (Memref.isWhole_whole _) arg3 harg3 arg4 harg4 arg5 harg5 arg6 harg6 arg7 harg7 arg8 harg8 sM (Memref.isWhole_whole _) sA (Memref.isWhole_whole _) s2 (Memref.isWhole_whole _) s3 (Memref.isWhole_whole _) s4 (Memref.isWhole_whole _) s5 (Memref.isWhole_whole _)) K

end Cert.KernelIdeal.Attn

end
-- ==== Proof.Sched.lean ====
/- The order of the block pairs, and what is decided at each. -/
module

public import proofs.«01_k».proof.Proof.Words

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-! ## The tables' contents: the program's own two literals -/

/-- The query block and the key block of each point, in the order the grid visits them. -/
abbrev TI : S528.Idx → BitVec 32 := fun x => lit0 (S528.rowMajor x)
abbrev TJ : S528.Idx → BitVec 32 := fun x => lit1 (S528.rowMajor x)

set_option backward.proofsInPublic true in
/-- The two tables together. -/
def pf : pre0.Contents (Elt F) := fun | ⟨0, _⟩ => TI | ⟨1, _⟩ => TJ | ⟨_ + 2, h⟩ => absurd h (by simp)

theorem inb_q : ∀ i : grid0.Coords, ∀ a, (cc0_transform_0 k0_off1_inb numel1_S1 (pf (F := Bits)) i a + 1) * S512x512.size a ≤ S512x16384.size a := by decide +kernel
theorem inb_k : ∀ i : grid0.Coords, ∀ a, (cc0_transform_1 k0_off1_inb numel1_S1 (pf (F := Bits)) i a + 1) * S512x512.size a ≤ S16384x512.size a := by decide +kernel
theorem inb_v : ∀ i : grid0.Coords, ∀ a, (cc0_transform_2 k0_off1_inb numel1_S1 (pf (F := Bits)) i a + 1) * S512x512.size a ≤ S512x16384.size a := by decide +kernel
theorem inb_o : ∀ i : grid0.Coords, ∀ a, (cc0_transform_5 k0_off1_inb numel1_S1 (pf (F := Bits)) i a + 1) * S512x512.size a ≤ S512x16384.size a := by decide +kernel

/-- Every block the tables name lies in its array. -/
theorem ok_pf : ok0 (F := F) pf :=
  ⟨fun i => ⟨inb_q i, .inr (Affine.block_words_dvd (s := S512x16384) (p := EltTy.packing .bf16) (by decide) (by decide))⟩,
   fun i => ⟨inb_k i, .inr (Affine.block_words_dvd (s := S16384x512) (p := EltTy.packing .bf16) (by decide) (by decide))⟩,
   fun i => ⟨inb_v i, .inr (Affine.block_words_dvd (s := S512x16384) (p := EltTy.packing .bf16) (by decide) (by decide))⟩,
   fun i => ⟨inb_o i, .inr (Affine.block_words_dvd (s := S512x16384) (p := EltTy.packing .bf16) (by decide) (by decide))⟩⟩

/-- The pipeline at these tables. -/
def adm : (pcfg0 (F := F)).Adm := ⟨pf, ok_pf⟩
abbrev cfgA (F : FTy → Type) [FloatOps F] [Named F] : Pipeline.Cfg sig Λ₀ := cfg0 (F := F) adm
abbrev pcs (F : FTy → Type) [FloatOps F] [Named F] : Fin 1 → Pipeline.Cfg sig Λ₀ := Pipeline.pin (pcfgs (F := F)) fun _ => adm

/-- Point `t`'s coordinates. -/
abbrev crd (t : Fin grid0.N) : grid0.Coords := grid0.coords t

/-! ## What is decided at each point -/

/-- The words at a point, over no float values. -/
abbrev iW (t : Fin grid0.N) : BitVec 32 := wI (F := Bits) TI (crd t)
abbrev jW (t : Fin grid0.N) : BitVec 32 := wJ (F := Bits) TJ (crd t)

/-- The block pair of point `t`: the branches taken, whether the result is written there and sent off. -/
abbrev At (t : Fin grid0.N) (fst dgl : Bool) : Prop :=
  (if fst then isFirst (jW t) = 1#1 else ¬(isFirst (jW t) = 1#1))
  ∧ (if dgl then ¬(isBelow (iW t) (jW t) = 1#1) else isBelow (iW t) (jW t) = 1#1)
  ∧ (if dgl then isDiag (iW t) (jW t) = 1#1 else ¬(isDiag (iW t) (jW t) = 1#1))
  ∧ (if dgl then k0_cond4 (iW t) (jW t) = 1#1 else ¬(k0_cond4 (iW t) (jW t) = 1#1))
  ∧ (cfgA Bits).idle (5 : Fin 6) (crd t) = !dgl
  ∧ ((cfgA Bits).win (5 : Fin 6)).flush t = dgl

/-- The two coordinates of a point of the triangle, and its place in the order. -/
abbrev Place (t : Fin grid0.N) : Prop :=
  (jW t).toNat ≤ (iW t).toNat ∧ (iW t).toNat < 32 ∧ t.val = (iW t).toNat * ((iW t).toNat + 1) / 2 + (jW t).toNat

abbrev FactsAt (t : Fin grid0.N) : Prop := At t (decide ((jW t).toNat = 0)) (decide ((jW t).toNat = (iW t).toNat)) ∧ Place t

theorem facts_0 : ∀ t : Fin grid0.N, 0 ≤ t.val → t.val < 66 → FactsAt t := by decide +kernel
theorem facts_1 : ∀ t : Fin grid0.N, 66 ≤ t.val → t.val < 132 → FactsAt t := by decide +kernel
theorem facts_2 : ∀ t : Fin grid0.N, 132 ≤ t.val → t.val < 198 → FactsAt t := by decide +kernel
theorem facts_3 : ∀ t : Fin grid0.N, 198 ≤ t.val → t.val < 264 → FactsAt t := by decide +kernel
theorem facts_4 : ∀ t : Fin grid0.N, 264 ≤ t.val → t.val < 330 → FactsAt t := by decide +kernel
theorem facts_5 : ∀ t : Fin grid0.N, 330 ≤ t.val → t.val < 396 → FactsAt t := by decide +kernel
theorem facts_6 : ∀ t : Fin grid0.N, 396 ≤ t.val → t.val < 462 → FactsAt t := by decide +kernel
theorem facts_7 : ∀ t : Fin grid0.N, 462 ≤ t.val → t.val < 528 → FactsAt t := by decide +kernel

theorem facts (t : Fin grid0.N) : FactsAt t := by
  have h0 : 0 ≤ t.val := Nat.zero_le _
  rcases Nat.lt_or_ge t.val 66 with h1 | h1; · exact facts_0 t h0 h1
  rcases Nat.lt_or_ge t.val 132 with h2 | h2; · exact facts_1 t h1 h2
  rcases Nat.lt_or_ge t.val 198 with h3 | h3; · exact facts_2 t h2 h3
  rcases Nat.lt_or_ge t.val 264 with h4 | h4; · exact facts_3 t h3 h4
  rcases Nat.lt_or_ge t.val 330 with h5 | h5; · exact facts_4 t h4 h5
  rcases Nat.lt_or_ge t.val 396 with h6 | h6; · exact facts_5 t h5 h6
  rcases Nat.lt_or_ge t.val 462 with h7 | h7; · exact facts_6 t h6 h7
  exact facts_7 t h7 (t.isLt.trans_eq N_0)

end Cert.KernelIdeal.Attn

end
-- ==== Proof.RunA.lean ====
/- One path of the attention body, run. -/
module

public import proofs.«01_k».proof.Proof.Words

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords)
  (arg3 : Memref sig .tc .vmem S512x512 .bf16) (harg3 : arg3.IsWhole) (arg4 : Memref sig .tc .vmem S512x512 .bf16) (harg4 : arg4.IsWhole)
  (arg5 : Memref sig .tc .vmem S512x512 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S512x512 .bf16) (harg8 : arg8.IsWhole)
  (T0 T1 : S528.Idx → Elt F .i32) (x0 x1 x2 : S512x512.Idx → Elt F .bf16) (x3 : S4x64.Idx → Elt F .f32) (x4 : S128x1.Idx → Elt F .f32)

set_option backward.proofsInPublic true in
set_option maxHeartbeats 8000000 in
/-- At the first key block, which is also the diagonal one: the scratch is reset, the block is taken in under the mask, the result is written. What the body leaves is found by running it. -/
noncomputable def runA (hc0 : isFirst (wJ T1 i) = 1#1) (hc1 : ¬(isBelow (wI T0 i) (wJ T1 i) = 1#1))
    (hc2 : isDiag (wI T0 i) (wJ T1 i) = 1#1) (hc4 : k0_cond4 (wI T0 i) (wJ T1 i) = 1#1) :
    Σ' (out : List (View.Piece (Elt F) S512x512 .bf16)) (m1 : S8x512.Idx → Elt F .f32) (acc1 : S8x144x512.Idx → Elt F .f32) (b2 b3 b4 : S512x512.Idx → Elt F .f32), { b5 : S512x512.Idx → Elt F .f32 //
      ∀ (a0 : S8x512.Idx → Elt F .f32) (a1 : S8x144x512.Idx → Elt F .f32) (a2 a3 a4 a5 : S512x512.Idx → Elt F .f32) (K : PUnit → sProp 𝕄),
        iprop(reads c arg3 arg4 arg5 arg6 arg7 T0 T1 x0 x1 x2 x3 x4 ∗ (∃ d, owns (c : Thread nD τ) arg8 fullShare d)
          ∗ scr c a0 a1 a2 a3 a4 a5
          ∗ (iprop(reads c arg3 arg4 arg5 arg6 arg7 T0 T1 x0 x1 x2 x3 x4
              ∗ (∃ f, arg8.view.loc (c : Thread nD τ) ↦[arg8.view.set]{fullShare} arg8.view.writes (Elt F) f out)
              ∗ scr c m1 acc1 b2 b3 b4 b5) -∗ K ⟨⟩))
          ⊢ runs c i arg3 harg3 arg4 harg4 arg5 harg5 arg6 harg6 arg7 harg7 arg8 harg8 K } :=
  ⟨_, _, _, _, _, _, _, fun a0 a1 a2 a3 a4 a5 K => by
    unfold reads scr runs owns
    rw [cc0_diff_prompt_eq_skeleton]; unfold cc0_diff_prompt_skel
    iintro ⟨⟨H0, H1, H2, H3, H4, HT0, HT1⟩, ⟨%d5, %f5, -, HO5⟩, ⟨HS0, HS1, HS2, HS3, HS4, HS5⟩, Hk⟩
    have hS0 : sM.IsWhole := Memref.isWhole_whole _
    have hS1 : sA.IsWhole := Memref.isWhole_whole _
    have hS2 : s2.IsWhole := Memref.isWhole_whole _
    have hS3 : s3.IsWhole := Memref.isWhole_whole _
    have hS4 : s4.IsWhole := Memref.isWhole_whole _
    have hS5 : s5.IsWhole := Memref.isWhole_whole _
    have hT0 : tI.IsWhole := Memref.isWhole_whole _
    have hT1 : tJ.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ _ = _; exact hc4))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]
    · iexists _; iexact HO5
    isplitl [HS0]; · iexact HS0
    isplitl [HS1]; · iexact HS1
    isplitl [HS2]; · iexact HS2
    isplitl [HS3]; · iexact HS3
    isplitl [HS4]; · iexact HS4
    iexact HS5⟩

end Cert.KernelIdeal.Attn

end
-- ==== Proof.RunB.lean ====
/- One path of the attention body, run. -/
module

public import proofs.«01_k».proof.Proof.Words

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords)
  (arg3 : Memref sig .tc .vmem S512x512 .bf16) (harg3 : arg3.IsWhole) (arg4 : Memref sig .tc .vmem S512x512 .bf16) (harg4 : arg4.IsWhole)
  (arg5 : Memref sig .tc .vmem S512x512 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S512x512 .bf16) (harg8 : arg8.IsWhole)
  (T0 T1 : S528.Idx → Elt F .i32) (x0 x1 x2 : S512x512.Idx → Elt F .bf16) (x3 : S4x64.Idx → Elt F .f32) (x4 : S128x1.Idx → Elt F .f32)

set_option backward.proofsInPublic true in
set_option maxHeartbeats 8000000 in
/-- At the first key block, below the diagonal: the scratch is reset and the block is taken in. What the body leaves is found by running it. -/
noncomputable def runB (hc0 : isFirst (wJ T1 i) = 1#1) (hc1 : isBelow (wI T0 i) (wJ T1 i) = 1#1)
    (hc2 : ¬(isDiag (wI T0 i) (wJ T1 i) = 1#1)) (hc4 : ¬(k0_cond4 (wI T0 i) (wJ T1 i) = 1#1)) :
    Σ' (m1 : S8x512.Idx → Elt F .f32) (acc1 : S8x144x512.Idx → Elt F .f32) (b2 b3 b4 : S512x512.Idx → Elt F .f32), { b5 : S512x512.Idx → Elt F .f32 //
      ∀ (y5 : S512x512.Idx → Elt F .bf16) (a0 : S8x512.Idx → Elt F .f32) (a1 : S8x144x512.Idx → Elt F .f32) (a2 a3 a4 a5 : S512x512.Idx → Elt F .f32) (K : PUnit → sProp 𝕄),
        iprop(reads c arg3 arg4 arg5 arg6 arg7 T0 T1 x0 x1 x2 x3 x4 ∗ owns (c : Thread nD τ) arg8 fullShare y5
          ∗ scr c a0 a1 a2 a3 a4 a5
          ∗ (iprop(reads c arg3 arg4 arg5 arg6 arg7 T0 T1 x0 x1 x2 x3 x4
              ∗ owns (c : Thread nD τ) arg8 fullShare y5
              ∗ scr c m1 acc1 b2 b3 b4 b5) -∗ K ⟨⟩))
          ⊢ runs c i arg3 harg3 arg4 harg4 arg5 harg5 arg6 harg6 arg7 harg7 arg8 harg8 K } :=
  ⟨_, _, _, _, _, _, fun y5 a0 a1 a2 a3 a4 a5 K => by
    unfold reads scr runs owns
    rw [cc0_diff_prompt_eq_skeleton]; unfold cc0_diff_prompt_skel
    iintro ⟨⟨H0, H1, H2, H3, H4, HT0, HT1⟩, ⟨%f5, %hf5, HO5⟩, ⟨HS0, HS1, HS2, HS3, HS4, HS5⟩, Hk⟩
    have hS0 : sM.IsWhole := Memref.isWhole_whole _
    have hS1 : sA.IsWhole := Memref.isWhole_whole _
    have hS2 : s2.IsWhole := Memref.isWhole_whole _
    have hS3 : s3.IsWhole := Memref.isWhole_whole _
    have hS4 : s4.IsWhole := Memref.isWhole_whole _
    have hS5 : s5.IsWhole := Memref.isWhole_whole _
    have hT0 : tI.IsWhole := Memref.isWhole_whole _
    have hT1 : tJ.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ _ = _); exact hc4))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]
    · iexists f5; isplitr; · ipureintro; exact hf5
      iexact HO5
    isplitl [HS0]; · iexact HS0
    isplitl [HS1]; · iexact HS1
    isplitl [HS2]; · iexact HS2
    isplitl [HS3]; · iexact HS3
    isplitl [HS4]; · iexact HS4
    iexact HS5⟩

end Cert.KernelIdeal.Attn

end
-- ==== Proof.RunC.lean ====
/- One path of the attention body, run. -/
module

public import proofs.«01_k».proof.Proof.Words

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords)
  (arg3 : Memref sig .tc .vmem S512x512 .bf16) (harg3 : arg3.IsWhole) (arg4 : Memref sig .tc .vmem S512x512 .bf16) (harg4 : arg4.IsWhole)
  (arg5 : Memref sig .tc .vmem S512x512 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S512x512 .bf16) (harg8 : arg8.IsWhole)
  (T0 T1 : S528.Idx → Elt F .i32) (x0 x1 x2 : S512x512.Idx → Elt F .bf16) (x3 : S4x64.Idx → Elt F .f32) (x4 : S128x1.Idx → Elt F .f32)

set_option backward.proofsInPublic true in
set_option maxHeartbeats 8000000 in
/-- At the diagonal key block, not the first: the block is taken in under the mask and the result is written. What the body leaves is found by running it. -/
noncomputable def runC (a0 : S8x512.Idx → Elt F .f32) (a1 : S8x144x512.Idx → Elt F .f32) (hc0 : ¬(isFirst (wJ T1 i) = 1#1)) (hc1 : ¬(isBelow (wI T0 i) (wJ T1 i) = 1#1))
    (hc2 : isDiag (wI T0 i) (wJ T1 i) = 1#1) (hc4 : k0_cond4 (wI T0 i) (wJ T1 i) = 1#1) :
    Σ' (out : List (View.Piece (Elt F) S512x512 .bf16)) (m1 : S8x512.Idx → Elt F .f32) (acc1 : S8x144x512.Idx → Elt F .f32) (b2 b3 b4 : S512x512.Idx → Elt F .f32), { b5 : S512x512.Idx → Elt F .f32 //
      ∀ (a2 a3 a4 a5 : S512x512.Idx → Elt F .f32) (K : PUnit → sProp 𝕄),
        iprop(reads c arg3 arg4 arg5 arg6 arg7 T0 T1 x0 x1 x2 x3 x4 ∗ (∃ d, owns (c : Thread nD τ) arg8 fullShare d)
          ∗ scr c a0 a1 a2 a3 a4 a5
          ∗ (iprop(reads c arg3 arg4 arg5 arg6 arg7 T0 T1 x0 x1 x2 x3 x4
              ∗ (∃ f, arg8.view.loc (c : Thread nD τ) ↦[arg8.view.set]{fullShare} arg8.view.writes (Elt F) f out)
              ∗ scr c m1 acc1 b2 b3 b4 b5) -∗ K ⟨⟩))
          ⊢ runs c i arg3 harg3 arg4 harg4 arg5 harg5 arg6 harg6 arg7 harg7 arg8 harg8 K } :=
  ⟨_, _, _, _, _, _, _, fun a2 a3 a4 a5 K => by
    unfold reads scr runs owns
    rw [cc0_diff_prompt_eq_skeleton]; unfold cc0_diff_prompt_skel
    iintro ⟨⟨H0, H1, H2, H3, H4, HT0, HT1⟩, ⟨%d5, %f5, -, HO5⟩, ⟨HS0, HS1, HS2, HS3, HS4, HS5⟩, Hk⟩
    have hS0 : sM.IsWhole := Memref.isWhole_whole _
    have hS1 : sA.IsWhole := Memref.isWhole_whole _
    have hS2 : s2.IsWhole := Memref.isWhole_whole _
    have hS3 : s3.IsWhole := Memref.isWhole_whole _
    have hS4 : s4.IsWhole := Memref.isWhole_whole _
    have hS5 : s5.IsWhole := Memref.isWhole_whole _
    have hT0 : tI.IsWhole := Memref.isWhole_whole _
    have hT1 : tJ.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ _ = _; exact hc4))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]
    · iexists _; iexact HO5
    isplitl [HS0]; · iexact HS0
    isplitl [HS1]; · iexact HS1
    isplitl [HS2]; · iexact HS2
    isplitl [HS3]; · iexact HS3
    isplitl [HS4]; · iexact HS4
    iexact HS5⟩

end Cert.KernelIdeal.Attn

end
-- ==== Proof.RunD.lean ====
/- One path of the attention body, run. -/
module

public import proofs.«01_k».proof.Proof.Words

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords)
  (arg3 : Memref sig .tc .vmem S512x512 .bf16) (harg3 : arg3.IsWhole) (arg4 : Memref sig .tc .vmem S512x512 .bf16) (harg4 : arg4.IsWhole)
  (arg5 : Memref sig .tc .vmem S512x512 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S512x512 .bf16) (harg8 : arg8.IsWhole)
  (T0 T1 : S528.Idx → Elt F .i32) (x0 x1 x2 : S512x512.Idx → Elt F .bf16) (x3 : S4x64.Idx → Elt F .f32) (x4 : S128x1.Idx → Elt F .f32)

set_option backward.proofsInPublic true in
set_option maxHeartbeats 8000000 in
/-- At a key block neither first nor on the diagonal: the block is taken in. What the body leaves is found by running it. -/
noncomputable def runD (a0 : S8x512.Idx → Elt F .f32) (a1 : S8x144x512.Idx → Elt F .f32) (hc0 : ¬(isFirst (wJ T1 i) = 1#1)) (hc1 : isBelow (wI T0 i) (wJ T1 i) = 1#1)
    (hc2 : ¬(isDiag (wI T0 i) (wJ T1 i) = 1#1)) (hc4 : ¬(k0_cond4 (wI T0 i) (wJ T1 i) = 1#1)) :
    Σ' (m1 : S8x512.Idx → Elt F .f32) (acc1 : S8x144x512.Idx → Elt F .f32) (b2 b3 b4 : S512x512.Idx → Elt F .f32), { b5 : S512x512.Idx → Elt F .f32 //
      ∀ (y5 : S512x512.Idx → Elt F .bf16) (a2 a3 a4 a5 : S512x512.Idx → Elt F .f32) (K : PUnit → sProp 𝕄),
        iprop(reads c arg3 arg4 arg5 arg6 arg7 T0 T1 x0 x1 x2 x3 x4 ∗ owns (c : Thread nD τ) arg8 fullShare y5
          ∗ scr c a0 a1 a2 a3 a4 a5
          ∗ (iprop(reads c arg3 arg4 arg5 arg6 arg7 T0 T1 x0 x1 x2 x3 x4
              ∗ owns (c : Thread nD τ) arg8 fullShare y5
              ∗ scr c m1 acc1 b2 b3 b4 b5) -∗ K ⟨⟩))
          ⊢ runs c i arg3 harg3 arg4 harg4 arg5 harg5 arg6 harg6 arg7 harg7 arg8 harg8 K } :=
  ⟨_, _, _, _, _, _, fun y5 a2 a3 a4 a5 K => by
    unfold reads scr runs owns
    rw [cc0_diff_prompt_eq_skeleton]; unfold cc0_diff_prompt_skel
    iintro ⟨⟨H0, H1, H2, H3, H4, HT0, HT1⟩, ⟨%f5, %hf5, HO5⟩, ⟨HS0, HS1, HS2, HS3, HS4, HS5⟩, Hk⟩
    have hS0 : sM.IsWhole := Memref.isWhole_whole _
    have hS1 : sA.IsWhole := Memref.isWhole_whole _
    have hS2 : s2.IsWhole := Memref.isWhole_whole _
    have hS3 : s3.IsWhole := Memref.isWhole_whole _
    have hS4 : s4.IsWhole := Memref.isWhole_whole _
    have hS5 : s5.IsWhole := Memref.isWhole_whole _
    have hT0 : tI.IsWhole := Memref.isWhole_whole _
    have hT1 : tJ.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ _ = _); exact hc4))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]
    · iexists f5; isplitr; · ipureintro; exact hf5
      iexact HO5
    isplitl [HS0]; · iexact HS0
    isplitl [HS1]; · iexact HS1
    isplitl [HS2]; · iexact HS2
    isplitl [HS3]; · iexact HS3
    isplitl [HS4]; · iexact HS4
    iexact HS5⟩

end Cert.KernelIdeal.Attn

end
-- ==== Proof.Steps.lean ====
/- What each point finds and leaves, and the data of the pipeline made of it. -/
module

public import proofs.«01_k».proof.Proof.Sched
public import proofs.«01_k».proof.Proof.RunA
public import proofs.«01_k».proof.Proof.RunB
public import proofs.«01_k».proof.Proof.RunC
public import proofs.«01_k».proof.Proof.RunD

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The resource algebra of the rounds, embedded whole. -/
abbrev EP : Emb (UR sig nD τ) 𝕄 := emb₁

/-! ## The buffers at a point -/

abbrev ms0 (t : Fin grid0.N) : Memref sig .tc .vmem S512x512 .bf16 := spec0_0.stage ((cfgA F).slots t (0 : Fin 6))
abbrev hs0 (t : Fin grid0.N) : (ms0 (F := F) t).IsWhole := hstage0_0 (((cfgA F).slots t (0 : Fin 6)).cast nbuf0_0)
abbrev ms1 (t : Fin grid0.N) : Memref sig .tc .vmem S512x512 .bf16 := spec0_1.stage ((cfgA F).slots t (1 : Fin 6))
abbrev hs1 (t : Fin grid0.N) : (ms1 (F := F) t).IsWhole := hstage0_1 (((cfgA F).slots t (1 : Fin 6)).cast nbuf0_1)
abbrev ms2 (t : Fin grid0.N) : Memref sig .tc .vmem S512x512 .bf16 := spec0_2.stage ((cfgA F).slots t (2 : Fin 6))
abbrev hs2 (t : Fin grid0.N) : (ms2 (F := F) t).IsWhole := hstage0_2 (((cfgA F).slots t (2 : Fin 6)).cast nbuf0_2)
abbrev ms3 (t : Fin grid0.N) : Memref sig .tc .vmem S4x64 .f32 := spec0_3.stage ((cfgA F).slots t (3 : Fin 6))
abbrev hs3 (t : Fin grid0.N) : (ms3 (F := F) t).IsWhole := hstage0_3 (((cfgA F).slots t (3 : Fin 6)).cast nbuf0_3)
abbrev ms4 (t : Fin grid0.N) : Memref sig .tc .vmem S128x1 .f32 := spec0_4.stage ((cfgA F).slots t (4 : Fin 6))
abbrev hs4 (t : Fin grid0.N) : (ms4 (F := F) t).IsWhole := hstage0_4 (((cfgA F).slots t (4 : Fin 6)).cast nbuf0_4)
abbrev ms5 (t : Fin grid0.N) : Memref sig .tc .vmem S512x512 .bf16 := spec0_5.stage ((cfgA F).slots t (5 : Fin 6))
abbrev hs5 (t : Fin grid0.N) : (ms5 (F := F) t).IsWhole := hstage0_5 (((cfgA F).slots t (5 : Fin 6)).cast nbuf0_5)

variable (A : (w : Fin 6) → (c : Dev nD) → Buf (Elt F) ((spec0 w).arr.view.loc (c : Thread nD τ)))

/-- Window `w`'s block at point `t`, out of the arrays' contents `A`. -/
def iblk (c : Dev nD) (w : Fin 6) (t : Fin grid0.N) : (((cfgA F).win w).xblock (crd t)).Idx → Elt F ((cfgA F).win w).elt :=
  (((cfgA F).win w).blk t).view.read (Elt F) (A w c)

/-! ## The facts of a point, over any float values -/

abbrev P0 (t : Fin grid0.N) : Prop := isFirst (jW t) = 1#1
abbrev P1 (t : Fin grid0.N) : Prop := isBelow (iW t) (jW t) = 1#1

theorem at_of (t : Fin grid0.N) : At t (decide (P0 t)) (!decide (P1 t)) := by
  obtain ⟨hA, -⟩ := facts t
  have h0 : decide (P0 t) = decide ((jW t).toNat = 0) := by
    have := hA.1
    by_cases h : (jW t).toNat = 0
    · rw [decide_eq_true h] at this ⊢; exact decide_eq_true this
    · rw [decide_eq_false h] at this ⊢; exact decide_eq_false this
  have h1 : (!decide (P1 t)) = decide ((jW t).toNat = (iW t).toNat) := by
    have := hA.2.1
    by_cases h : (jW t).toNat = (iW t).toNat
    · rw [decide_eq_true h] at this ⊢; have q : ¬P1 t := this; rw [decide_eq_false q]; rfl
    · rw [decide_eq_false h] at this ⊢; have q : P1 t := this; rw [decide_eq_true q]; rfl
  rw [h0, h1]; exact hA

theorem hypsA (t : Fin grid0.N) (q0 : P0 t) (q1 : ¬P1 t) :
    (isFirst (wJ (F := F) TJ (crd t)) = 1#1) ∧ (¬(isBelow (wI (F := F) TI (crd t)) (wJ (F := F) TJ (crd t)) = 1#1))
      ∧ (isDiag (wI (F := F) TI (crd t)) (wJ (F := F) TJ (crd t)) = 1#1) ∧ (k0_cond4 (wI (F := F) TI (crd t)) (wJ (F := F) TJ (crd t)) = 1#1) := by
  have h := at_of t
  rw [decide_eq_true q0, decide_eq_false q1] at h
  exact ⟨h.1, h.2.1, h.2.2.1, h.2.2.2.1⟩
theorem schedA (t : Fin grid0.N) (q0 : P0 t) (q1 : ¬P1 t) :
    (cfgA F).idle (5 : Fin 6) (crd t) = false ∧ ((cfgA F).win (5 : Fin 6)).flush t = true := by
  have h := at_of t
  rw [decide_eq_true q0, decide_eq_false q1] at h
  exact ⟨h.2.2.2.2.1, h.2.2.2.2.2⟩
theorem hypsB (t : Fin grid0.N) (q0 : P0 t) (q1 : P1 t) :
    (isFirst (wJ (F := F) TJ (crd t)) = 1#1) ∧ (isBelow (wI (F := F) TI (crd t)) (wJ (F := F) TJ (crd t)) = 1#1)
      ∧ (¬(isDiag (wI (F := F) TI (crd t)) (wJ (F := F) TJ (crd t)) = 1#1)) ∧ (¬(k0_cond4 (wI (F := F) TI (crd t)) (wJ (F := F) TJ (crd t)) = 1#1)) := by
  have h := at_of t
  rw [decide_eq_true q0, decide_eq_true q1] at h
  exact ⟨h.1, h.2.1, h.2.2.1, h.2.2.2.1⟩
theorem schedB (t : Fin grid0.N) (q0 : P0 t) (q1 : P1 t) :
    (cfgA F).idle (5 : Fin 6) (crd t) = true ∧ ((cfgA F).win (5 : Fin 6)).flush t = false := by
  have h := at_of t
  rw [decide_eq_true q0, decide_eq_true q1] at h
  exact ⟨h.2.2.2.2.1, h.2.2.2.2.2⟩
theorem hypsC (t : Fin grid0.N) (q0 : ¬P0 t) (q1 : ¬P1 t) :
    (¬(isFirst (wJ (F := F) TJ (crd t)) = 1#1)) ∧ (¬(isBelow (wI (F := F) TI (crd t)) (wJ (F := F) TJ (crd t)) = 1#1))
      ∧ (isDiag (wI (F := F) TI (crd t)) (wJ (F := F) TJ (crd t)) = 1#1) ∧ (k0_cond4 (wI (F := F) TI (crd t)) (wJ (F := F) TJ (crd t)) = 1#1) := by
  have h := at_of t
  rw [decide_eq_false q0, decide_eq_false q1] at h
  exact ⟨h.1, h.2.1, h.2.2.1, h.2.2.2.1⟩
theorem schedC (t : Fin grid0.N) (q0 : ¬P0 t) (q1 : ¬P1 t) :
    (cfgA F).idle (5 : Fin 6) (crd t) = false ∧ ((cfgA F).win (5 : Fin 6)).flush t = true := by
  have h := at_of t
  rw [decide_eq_false q0, decide_eq_false q1] at h
  exact ⟨h.2.2.2.2.1, h.2.2.2.2.2⟩
theorem hypsD (t : Fin grid0.N) (q0 : ¬P0 t) (q1 : P1 t) :
    (¬(isFirst (wJ (F := F) TJ (crd t)) = 1#1)) ∧ (isBelow (wI (F := F) TI (crd t)) (wJ (F := F) TJ (crd t)) = 1#1)
      ∧ (¬(isDiag (wI (F := F) TI (crd t)) (wJ (F := F) TJ (crd t)) = 1#1)) ∧ (¬(k0_cond4 (wI (F := F) TI (crd t)) (wJ (F := F) TJ (crd t)) = 1#1)) := by
  have h := at_of t
  rw [decide_eq_false q0, decide_eq_true q1] at h
  exact ⟨h.1, h.2.1, h.2.2.1, h.2.2.2.1⟩
theorem schedD (t : Fin grid0.N) (q0 : ¬P0 t) (q1 : P1 t) :
    (cfgA F).idle (5 : Fin 6) (crd t) = true ∧ ((cfgA F).win (5 : Fin 6)).flush t = false := by
  have h := at_of t
  rw [decide_eq_false q0, decide_eq_true q1] at h
  exact ⟨h.2.2.2.2.1, h.2.2.2.2.2⟩

/-- Nothing stored in the result's buffer is ever waiting there: it is written and sent off at one and the same point. -/
theorem fresh_all (t : Fin grid0.N) : (cfgA F).fresh (5 : Fin 6) t.val = true :=
  Pipeline.Cfg.fresh_tab (cfgA F) (5 : Fin 6) (fun _ => true) rfl (fun t => by
    by_cases q0 : P0 t <;> by_cases q1 : P1 t
    · obtain ⟨h, h'⟩ := schedB (F := F) t q0 q1; show true = (((cfgA F).win (5 : Fin 6)).flush t || ((cfgA F).idle (5 : Fin 6) (crd t) && true)); rw [h, h']; rfl
    · obtain ⟨h, h'⟩ := schedA (F := F) t q0 q1; show true = (((cfgA F).win (5 : Fin 6)).flush t || ((cfgA F).idle (5 : Fin 6) (crd t) && true)); rw [h, h']; rfl
    · obtain ⟨h, h'⟩ := schedD (F := F) t q0 q1; show true = (((cfgA F).win (5 : Fin 6)).flush t || ((cfgA F).idle (5 : Fin 6) (crd t) && true)); rw [h, h']; rfl
    · obtain ⟨h, h'⟩ := schedC (F := F) t q0 q1; show true = (((cfgA F).win (5 : Fin 6)).flush t || ((cfgA F).idle (5 : Fin 6) (crd t) && true)); rw [h, h']; rfl) t.val (Nat.le_of_lt t.isLt)

/-! ## What a point leaves -/

/-- The running maxima and the accumulators. -/
abbrev St (F : FTy → Type) : Type := (S8x512.Idx → Elt F .f32) × (S8x144x512.Idx → Elt F .f32)

/-- Path A at point `t`. -/
abbrev atA (c : Dev nD) (t : Fin grid0.N) (q0 : P0 t) (q1 : ¬P1 t) :=
  (runA (F := F) c (crd t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) TI TJ (iblk A c 0 t) (iblk A c 1 t) (iblk A c 2 t) (iblk A c 3 t) (iblk A c 4 t) (hypsA t q0 q1).1 (hypsA t q0 q1).2.1 (hypsA t q0 q1).2.2.1 (hypsA t q0 q1).2.2.2)
/-- Path B at point `t`. -/
abbrev atB (c : Dev nD) (t : Fin grid0.N) (q0 : P0 t) (q1 : P1 t) :=
  (runB (F := F) c (crd t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) TI TJ (iblk A c 0 t) (iblk A c 1 t) (iblk A c 2 t) (iblk A c 3 t) (iblk A c 4 t) (hypsB t q0 q1).1 (hypsB t q0 q1).2.1 (hypsB t q0 q1).2.2.1 (hypsB t q0 q1).2.2.2)
/-- Path C at point `t`. -/
abbrev atC (c : Dev nD) (t : Fin grid0.N) (p : St F) (q0 : ¬P0 t) (q1 : ¬P1 t) :=
  (runC (F := F) c (crd t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) TI TJ (iblk A c 0 t) (iblk A c 1 t) (iblk A c 2 t) (iblk A c 3 t) (iblk A c 4 t) p.1 p.2 (hypsC t q0 q1).1 (hypsC t q0 q1).2.1 (hypsC t q0 q1).2.2.1 (hypsC t q0 q1).2.2.2)
/-- Path D at point `t`. -/
abbrev atD (c : Dev nD) (t : Fin grid0.N) (p : St F) (q0 : ¬P0 t) (q1 : P1 t) :=
  (runD (F := F) c (crd t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) TI TJ (iblk A c 0 t) (iblk A c 1 t) (iblk A c 2 t) (iblk A c 3 t) (iblk A c 4 t) p.1 p.2 (hypsD t q0 q1).1 (hypsD t q0 q1).2.1 (hypsD t q0 q1).2.2.1 (hypsD t q0 q1).2.2.2)

/-- The scratch a point leaves, from what it found. -/
def step (c : Dev nD) (t : Fin grid0.N) (p : St F) : St F :=
  if q0 : P0 t then
    if q1 : P1 t then ((atB A c t q0 q1).1, (atB A c t q0 q1).2.1)
    else ((atA A c t q0 q1).2.1, (atA A c t q0 q1).2.2.1)
  else
    if q1 : P1 t then ((atD A c t p q0 q1).1, (atD A c t p q0 q1).2.1)
    else ((atC A c t p q0 q1).2.1, (atC A c t p q0 q1).2.2.1)

/-- The scratch before position `n`. -/
def traj (c : Dev nD) : ℕ → St F
  | 0 => (fun _ => FloatOps.ofBits .f32 0#32, fun _ => FloatOps.ofBits .f32 0#32)
  | n + 1 => if h : n < grid0.N then step A c ⟨n, h⟩ (traj c n) else traj c n

theorem traj_succ (c : Dev nD) (t : Fin grid0.N) : traj A c (t.val + 1) = step A c t (traj A c t.val) := by
  conv_lhs => unfold traj
  rw [dif_pos t.isLt]

/-- A staging buffer of the result, through which a block written piece by piece is read. -/
abbrev VO : View sig .tc .vmem S512x512 .bf16 := (Memref.whole cc0_stg5_0 : Memref sig .tc .vmem S512x512 .bf16).view

/-- The block a diagonal point writes. -/
def outAt (c : Dev nD) (t : Fin grid0.N) (p : St F) : S512x512.Idx → Elt F .bf16 :=
  if q1 : P1 t then fun _ => FloatOps.ofBits .bf16 0#16
  else if q0 : P0 t then VO.read (Elt F) (VO.writes (Elt F) VO.junk (atA A c t q0 q1).1)
  else VO.read (Elt F) (VO.writes (Elt F) VO.junk (atC A c t p q0 q1).1)

theorem coverA (c : Dev nD) (t : Fin grid0.N) (q0 : P0 t) (q1 : ¬P1 t) (y : S512x512.Idx) : ∃ pc ∈ (atA A c t q0 q1).1, y ∈ pc.1.set :=
  View.cover_of_tiledL (atA A c t q0 q1).1 S128x512.size (by sl_kernel_rfl) y
theorem coverC (c : Dev nD) (t : Fin grid0.N) (p : St F) (q0 : ¬P0 t) (q1 : ¬P1 t) (y : S512x512.Idx) : ∃ pc ∈ (atC A c t p q0 q1).1, y ∈ pc.1.set :=
  View.cover_of_tiledL (atC A c t p q0 q1).1 S128x512.size (by sl_kernel_rfl) y

/-! ## The pipeline's proof data -/

/-- Before point `n`: the scratch holds what the points so far left, once there was one; the four score buffers hold
    anything; half of each table is here. -/
def Phi (c : Dev nD) (n : ℕ) : sProp 𝕄 :=
  iprop((∃ a0 : S8x512.Idx → Elt F .f32, ∃ a1 : S8x144x512.Idx → Elt F .f32, ∃ a2 a3 a4 a5 : S512x512.Idx → Elt F .f32,
      ⌜n ≠ 0 → a0 = (traj A c n).1 ∧ a1 = (traj A c n).2⌝ ∗ scr c a0 a1 a2 a3 a4 a5)
    ∗ (tI.view.loc (c : Thread nD τ) ↦{fullShare.right} TI) ∗ (tJ.view.loc (c : Thread nD τ) ↦{fullShare.right} TJ) ∗ (∃ r, prngReg c r))

def dats (_ : Fin 1) (c : Dev nD) : Dat τ (Elt F) Unit ℕ (UR sig nD τ) ℕ (cfgA F) c where
  A w := A w c
  after w t := match w with
    | ⟨0, _⟩ => iblk A c 0 t
    | ⟨1, _⟩ => iblk A c 1 t
    | ⟨2, _⟩ => iblk A c 2 t
    | ⟨3, _⟩ => iblk A c 3 t
    | ⟨4, _⟩ => iblk A c 4 t
    | ⟨5, _⟩ => outAt A c t (traj A c t.val)
  Φ t := Phi A c t.val
  q _ := fullShare
  owed _ := 0

theorem after0 (c : Dev nD) (t : Fin grid0.N) : (dats A 0 c).after (0 : Fin 6) t = iblk A c 0 t := rfl
theorem after1 (c : Dev nD) (t : Fin grid0.N) : (dats A 0 c).after (1 : Fin 6) t = iblk A c 1 t := rfl
theorem after2 (c : Dev nD) (t : Fin grid0.N) : (dats A 0 c).after (2 : Fin 6) t = iblk A c 2 t := rfl
theorem after3 (c : Dev nD) (t : Fin grid0.N) : (dats A 0 c).after (3 : Fin 6) t = iblk A c 3 t := rfl
theorem after4 (c : Dev nD) (t : Fin grid0.N) : (dats A 0 c).after (4 : Fin 6) t = iblk A c 4 t := rfl
theorem after5 (c : Dev nD) (t : Fin grid0.N) : (dats A 0 c).after (5 : Fin 6) t = outAt A c t (traj A c t.val) := rfl
theorem before0 (c : Dev nD) (t : Fin grid0.N) (d) : (dats A 0 c).before (0 : Fin 6) t d = iblk A c 0 t :=
  ((dats A 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin grid0.N) (d) : (dats A 0 c).before (1 : Fin 6) t d = iblk A c 1 t :=
  ((dats A 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin grid0.N) (d) : (dats A 0 c).before (2 : Fin 6) t d = iblk A c 2 t :=
  ((dats A 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin grid0.N) (d) : (dats A 0 c).before (3 : Fin 6) t d = iblk A c 3 t :=
  ((dats A 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin grid0.N) (d) : (dats A 0 c).before (4 : Fin 6) t d = iblk A c 4 t :=
  ((dats A 0 c).before_in_eq_fetched (4 : Fin 6) rfl (fun _ => rfl) (fun _ _ _ => rfl) (fun t => by rw [after4]; unfold Dat.blockOf iblk; rfl) t d).trans
    (by unfold Dat.fetched Dat.blockOf iblk; rfl)
theorem before5 (c : Dev nD) (t : Fin grid0.N) (d) : (dats A 0 c).before (5 : Fin 6) t d = d := by
  rw [(dats A 0 c).before_out_traj (5 : Fin 6) rfl (fun _ _ => rfl) (fun t _ _ hf => absurd ((fresh_all (F := F) t).symm.trans hf) (by decide)) t.val t rfl d,
    fresh_all t]
  rfl

end Cert.KernelIdeal.Attn

end
-- ==== Proof.Body.lean ====
/- The body meets its obligation to the pipeline at every point. -/
module

public import proofs.«01_k».proof.Proof.Steps

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (A : (w : Fin 6) → (c : Dev nD) → Buf (Elt F) ((spec0 w).arr.view.loc (c : Thread nD τ)))

theorem stepA (c : Dev nD) (t : Fin grid0.N) (p : St F) (q0 : P0 t) (q1 : ¬P1 t) :
    step A c t p = ((atA A c t q0 q1).2.1, (atA A c t q0 q1).2.2.1) := by
  unfold step; rw [dif_pos q0, dif_neg q1]
theorem outA (c : Dev nD) (t : Fin grid0.N) (p : St F) (q0 : P0 t) (q1 : ¬P1 t) :
    outAt A c t p = VO.read (Elt F) (VO.writes (Elt F) VO.junk (atA A c t q0 q1).1) := by
  unfold outAt; rw [dif_neg q1, dif_pos q0]
theorem stepB (c : Dev nD) (t : Fin grid0.N) (p : St F) (q0 : P0 t) (q1 : P1 t) :
    step A c t p = ((atB A c t q0 q1).1, (atB A c t q0 q1).2.1) := by
  unfold step; rw [dif_pos q0, dif_pos q1]
theorem stepC (c : Dev nD) (t : Fin grid0.N) (p : St F) (q0 : ¬P0 t) (q1 : ¬P1 t) :
    step A c t p = ((atC A c t p q0 q1).2.1, (atC A c t p q0 q1).2.2.1) := by
  unfold step; rw [dif_neg q0, dif_neg q1]
theorem outC (c : Dev nD) (t : Fin grid0.N) (p : St F) (q0 : ¬P0 t) (q1 : ¬P1 t) :
    outAt A c t p = VO.read (Elt F) (VO.writes (Elt F) VO.junk (atC A c t p q0 q1).1) := by
  unfold outAt; rw [dif_neg q1, dif_neg q0]
theorem stepD (c : Dev nD) (t : Fin grid0.N) (p : St F) (q0 : ¬P0 t) (q1 : P1 t) :
    step A c t p = ((atD A c t p q0 q1).1, (atD A c t p q0 q1).2.1) := by
  unfold step; rw [dif_neg q0, dif_pos q1]

/-- Past the first point the scratch is not a first point's. -/
theorem not_first (t : Fin grid0.N) (q0 : ¬P0 t) : t.val ≠ 0 := by
  intro h
  refine q0 ?_
  obtain ⟨hA, hP⟩ := facts t
  have hj : (jW t).toNat = 0 := by have := hP.2.2; omega
  have := hA.1
  rw [decide_eq_true hj] at this
  exact this

/-- The body at point `t`, as the pipeline calls it. -/
abbrev bodyAt (t : Fin grid0.N) : Prog (TpuEff nD τ sig (Elt F) Λ₀ .tc) PUnit :=
  cc0_diff_prompt (crd t) tI (Memref.isWhole_whole _) tJ (Memref.isWhole_whole _) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) sM (Memref.isWhole_whole _) sA (Memref.isWhole_whole _) s2 (Memref.isWhole_whole _) s3 (Memref.isWhole_whole _) s4 (Memref.isWhole_whole _) s5 (Memref.isWhole_whole _)

/-- What the pipeline hands the body at `t`. -/
abbrev PreS (c : Dev nD) (t : Fin grid0.N) : sProp 𝕄 :=
  iprop((dats A 0 c).Φ t.castSucc ∗ (dats A 0 c).owesAt () t.castSucc
        ∗ (∃ d, owns (c : Thread nD τ) (ms0 (F := F) t) fullShare ((dats A 0 c).before (0 : Fin 6) t d))
        ∗ (∃ d, owns (c : Thread nD τ) (ms1 (F := F) t) fullShare ((dats A 0 c).before (1 : Fin 6) t d))
        ∗ (∃ d, owns (c : Thread nD τ) (ms2 (F := F) t) fullShare ((dats A 0 c).before (2 : Fin 6) t d))
        ∗ (∃ d, owns (c : Thread nD τ) (ms3 (F := F) t) fullShare ((dats A 0 c).before (3 : Fin 6) t d))
        ∗ (∃ d, owns (c : Thread nD τ) (ms4 (F := F) t) fullShare ((dats A 0 c).before (4 : Fin 6) t d))
        ∗ (∃ d, owns (c : Thread nD τ) (ms5 (F := F) t) fullShare ((dats A 0 c).before (5 : Fin 6) t d)))

/-- What the body leaves at `t`. -/
abbrev PostS (c : Dev nD) (t : Fin grid0.N) : sProp 𝕄 :=
  iprop((dats A 0 c).Φ t.succ ∗ (dats A 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats A 0 c).before w t d))
                  | true => owns (c : Thread nD τ) (((cfgA F).win w).stage ((cfgA F).slots t w)) fullShare ((dats A 0 c).after w t)
                | false => owns (c : Thread nD τ) (((cfgA F).win w).stage ((cfgA F).slots t w)) fullShare ((dats A 0 c).after w t))

theorem pair_of {α β : Type} {p : α × β} {x : α} {y : β} (h : p = (x, y)) : x = p.1 ∧ y = p.2 := by subst h; exact ⟨rfl, rfl⟩

set_option maxHeartbeats 1000000 in
/-- Path B: from what the pipeline hands the body and what the points before left, to what this point leaves. -/
theorem soundB (c : Dev nD) (t : Fin grid0.N) (q0 : P0 t) (q1 : P1 t) :
    PreS A c t ⊢ wp frame (wpE (defs₀ (F := F)) Variants.none c none) Set.univ (bodyAt (F := F) t) fun _ => PostS A c t := by
    unfold PreS PostS
    rw [bigSep_W0]
    obtain ⟨i5, f5⟩ := schedB (F := F) t q0 q1
    rewrite [i5]
    simp only [before0, before1, before2, before3, before4, before5, after0, after1, after2, after3, after4, after5, f5]
    rewrite [show (dats A 0 c).Φ t.succ = Phi A c (t.val + 1) from rfl, show (dats A 0 c).Φ t.castSucc = Phi A c t.val from rfl,
      show (dats A 0 c).owesAt () t.succ = (dats A 0 c).owesAt () t.castSucc from rfl]
    unfold Phi
    have hn : traj A c (t.val + 1) = _ := (traj_succ A c t).trans (stepB A c t _ q0 q1)
    generalize traj A c (t.val + 1) = p' at hn ⊢
    generalize traj A c t.val = p at hn ⊢
    iintro ⟨⟨⟨%a0, %a1, %a2, %a3, %a4, %a5, %ha, HS⟩, HT0, HT1, HR⟩, Ho, ⟨%d0, H0⟩, ⟨%d1, H1⟩, ⟨%d2, H2⟩, ⟨%d3, H3⟩, ⟨%d4, H4⟩, ⟨%d5, H5⟩⟩
    iapply ((atB A c t q0 q1).2.2.2.2.2.2 d5 a0 a1 a2 a3 a4 a5 _)
    isplitl [H0 H1 H2 H3 H4 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      iexact HT1
    isplitl [H5]; · iexact H5
    isplitl [HS]; · iexact HS
    iintro ⟨⟨H0, H1, H2, H3, H4, HT0, HT1⟩, H5, HS⟩
    isplitl [HS HT0 HT1 HR]
    · isplitl [HS]
      · iexists _; iexists _; iexists _; iexists _; iexists _; iexists _
        isplitr; swap
        · iexact HS
        · ipureintro; intro _; exact pair_of hn
      isplitl [HT0]; · iexact HT0
      isplitl [HT1]; · iexact HT1
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexists d5; iexact H5

set_option maxHeartbeats 1000000 in
/-- Path A: from what the pipeline hands the body and what the points before left, to what this point leaves. -/
theorem soundA (c : Dev nD) (t : Fin grid0.N) (q0 : P0 t) (q1 : ¬P1 t) :
    PreS A c t ⊢ wp frame (wpE (defs₀ (F := F)) Variants.none c none) Set.univ (bodyAt (F := F) t) fun _ => PostS A c t := by
    unfold PreS PostS
    rw [bigSep_W0]
    obtain ⟨i5, f5⟩ := schedA (F := F) t q0 q1
    rewrite [i5]
    simp only [before0, before1, before2, before3, before4, before5, after0, after1, after2, after3, after4, after5, f5]
    rewrite [show (dats A 0 c).Φ t.succ = Phi A c (t.val + 1) from rfl, show (dats A 0 c).Φ t.castSucc = Phi A c t.val from rfl,
      show (dats A 0 c).owesAt () t.succ = (dats A 0 c).owesAt () t.castSucc from rfl, outA A c t _ q0 q1]
    unfold Phi
    have hn : traj A c (t.val + 1) = _ := (traj_succ A c t).trans (stepA A c t _ q0 q1)
    generalize traj A c (t.val + 1) = p' at hn ⊢
    generalize traj A c t.val = p at hn ⊢
    iintro ⟨⟨⟨%a0, %a1, %a2, %a3, %a4, %a5, %ha, HS⟩, HT0, HT1, HR⟩, Ho, ⟨%d0, H0⟩, ⟨%d1, H1⟩, ⟨%d2, H2⟩, ⟨%d3, H3⟩, ⟨%d4, H4⟩, ⟨%d5, H5⟩⟩
    iapply ((atA A c t q0 q1).2.2.2.2.2.2.2 a0 a1 a2 a3 a4 a5 _)
    isplitl [H0 H1 H2 H3 H4 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      iexact HT1
    isplitl [H5]; · iexists _; iexact H5
    isplitl [HS]; · iexact HS
    iintro ⟨⟨H0, H1, H2, H3, H4, HT0, HT1⟩, ⟨%e5, H5⟩, HS⟩
    isplitl [HS HT0 HT1 HR]
    · isplitl [HS]
      · iexists _; iexists _; iexists _; iexists _; iexists _; iexists _
        isplitr; swap
        · iexact HS
        · ipureintro; intro _; exact pair_of hn
      isplitl [HT0]; · iexact HT0
      isplitl [HT1]; · iexact HT1
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (coverA A c t q0 q1)

set_option maxHeartbeats 1000000 in
/-- Path D: from what the pipeline hands the body and what the points before left, to what this point leaves. -/
theorem soundD (c : Dev nD) (t : Fin grid0.N) (q0 : ¬P0 t) (q1 : P1 t) :
    PreS A c t ⊢ wp frame (wpE (defs₀ (F := F)) Variants.none c none) Set.univ (bodyAt (F := F) t) fun _ => PostS A c t := by
    unfold PreS PostS
    rw [bigSep_W0]
    obtain ⟨i5, f5⟩ := schedD (F := F) t q0 q1
    rewrite [i5]
    simp only [before0, before1, before2, before3, before4, before5, after0, after1, after2, after3, after4, after5, f5]
    rewrite [show (dats A 0 c).Φ t.succ = Phi A c (t.val + 1) from rfl, show (dats A 0 c).Φ t.castSucc = Phi A c t.val from rfl,
      show (dats A 0 c).owesAt () t.succ = (dats A 0 c).owesAt () t.castSucc from rfl]
    unfold Phi
    have hn : traj A c (t.val + 1) = _ := (traj_succ A c t).trans (stepD A c t _ q0 q1)
    generalize traj A c (t.val + 1) = p' at hn ⊢
    generalize traj A c t.val = p at hn ⊢
    iintro ⟨⟨⟨%a0, %a1, %a2, %a3, %a4, %a5, %ha, HS⟩, HT0, HT1, HR⟩, Ho, ⟨%d0, H0⟩, ⟨%d1, H1⟩, ⟨%d2, H2⟩, ⟨%d3, H3⟩, ⟨%d4, H4⟩, ⟨%d5, H5⟩⟩
    obtain ⟨rfl, rfl⟩ := ha (not_first t q0)
    iapply ((atD A c t p q0 q1).2.2.2.2.2.2 d5 a2 a3 a4 a5 _)
    isplitl [H0 H1 H2 H3 H4 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      iexact HT1
    isplitl [H5]; · iexact H5
    isplitl [HS]; · iexact HS
    iintro ⟨⟨H0, H1, H2, H3, H4, HT0, HT1⟩, H5, HS⟩
    isplitl [HS HT0 HT1 HR]
    · isplitl [HS]
      · iexists _; iexists _; iexists _; iexists _; iexists _; iexists _
        isplitr; swap
        · iexact HS
        · ipureintro; intro _; exact pair_of hn
      isplitl [HT0]; · iexact HT0
      isplitl [HT1]; · iexact HT1
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexists d5; iexact H5

set_option maxHeartbeats 1000000 in
/-- Path C: from what the pipeline hands the body and what the points before left, to what this point leaves. -/
theorem soundC (c : Dev nD) (t : Fin grid0.N) (q0 : ¬P0 t) (q1 : ¬P1 t) :
    PreS A c t ⊢ wp frame (wpE (defs₀ (F := F)) Variants.none c none) Set.univ (bodyAt (F := F) t) fun _ => PostS A c t := by
    unfold PreS PostS
    rw [bigSep_W0]
    obtain ⟨i5, f5⟩ := schedC (F := F) t q0 q1
    rewrite [i5]
    simp only [before0, before1, before2, before3, before4, before5, after0, after1, after2, after3, after4, after5, f5]
    rewrite [show (dats A 0 c).Φ t.succ = Phi A c (t.val + 1) from rfl, show (dats A 0 c).Φ t.castSucc = Phi A c t.val from rfl,
      show (dats A 0 c).owesAt () t.succ = (dats A 0 c).owesAt () t.castSucc from rfl, outC A c t _ q0 q1]
    unfold Phi
    have hn : traj A c (t.val + 1) = _ := (traj_succ A c t).trans (stepC A c t _ q0 q1)
    generalize traj A c (t.val + 1) = p' at hn ⊢
    generalize traj A c t.val = p at hn ⊢
    iintro ⟨⟨⟨%a0, %a1, %a2, %a3, %a4, %a5, %ha, HS⟩, HT0, HT1, HR⟩, Ho, ⟨%d0, H0⟩, ⟨%d1, H1⟩, ⟨%d2, H2⟩, ⟨%d3, H3⟩, ⟨%d4, H4⟩, ⟨%d5, H5⟩⟩
    obtain ⟨rfl, rfl⟩ := ha (not_first t q0)
    iapply ((atC A c t p q0 q1).2.2.2.2.2.2.2 a2 a3 a4 a5 _)
    isplitl [H0 H1 H2 H3 H4 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      iexact HT1
    isplitl [H5]; · iexists _; iexact H5
    isplitl [HS]; · iexact HS
    iintro ⟨⟨H0, H1, H2, H3, H4, HT0, HT1⟩, ⟨%e5, H5⟩, HS⟩
    isplitl [HS HT0 HT1 HR]
    · isplitl [HS]
      · iexists _; iexists _; iexists _; iexists _; iexists _; iexists _
        isplitr; swap
        · iexact HS
        · ipureintro; intro _; exact pair_of hn
      isplitl [HT0]; · iexact HT0
      isplitl [HT1]; · iexact HT1
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (coverC A c t p q0 q1)

/-- One point, whichever of the four it is. -/
theorem sound_body (c : Dev nD) (t : Fin grid0.N) :
    PreS A c t ⊢ wp frame (wpE (defs₀ (F := F)) Variants.none c none) Set.univ (bodyAt (F := F) t) fun _ => PostS A c t := by
  by_cases q0 : P0 t <;> by_cases q1 : P1 t
  · exact soundB A c t q0 q1
  · exact soundA A c t q0 q1
  · exact soundD A c t q0 q1
  · exact soundC A c t q0 q1

/-- The body's obligation to the pipeline, at every point. -/
theorem body_obligation (c : Dev nD) : BodyObligation (dats A 0 c) (defs₀ (F := F)) Variants.none () Set.univ := fun t => by
  rw [bigSep_W0]
  exact sound_body A c t

theorem share_eq (c : Dev nD) (w : Fin (cfgA F).W) : (dats A 0 c).share w = fullShare := by unfold Dat.share; split <;> rfl

/-- The two tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- Before the first point: the tables and the scratch, whatever it holds. -/
theorem phi_start (c : Dev nD) :
    iprop(Pipeline.ΦA (U := UR sig nD τ) spec0 c ∗ Pipeline.ΦT pre0 (adm (F := F)).1 c) ⊢ (dats A 0 c).Φ 0 := by
  unfold Pipeline.ΦA Pipeline.ΦT
  rw [prefHeld_eq, scopedRest0_eq, show (dats A 0 c).Φ 0 = Phi A c 0 from rfl]
  unfold Phi
  iintro ⟨⟨⟨⟨%a0, HS0⟩, ⟨%a1, HS1⟩, ⟨%a2, HS2⟩, ⟨%a3, HS3⟩, ⟨%a4, HS4⟩, ⟨%a5, HS5⟩⟩, HR⟩, HT0, HT1⟩
  isplitl [HS0 HS1 HS2 HS3 HS4 HS5]
  · iexists a0; iexists a1; iexists a2; iexists a3; iexists a4; iexists a5
    isplitr; · ipureintro; intro h; exact absurd rfl h
    isplitl [HS0]; · iexact HS0
    isplitl [HS1]; · iexact HS1
    isplitl [HS2]; · iexact HS2
    isplitl [HS3]; · iexact HS3
    isplitl [HS4]; · iexact HS4
    iexact HS5
  isplitl [HT0]; · iexact HT0
  isplitl [HT1]; · iexact HT1
  iexact HR

/-- After the last: the scratch is given back. -/
theorem phi_end (c : Dev nD) : (dats A 0 c).Φ (Fin.last (cfgA F).N) ⊢ Pipeline.ΦA (U := UR sig nD τ) spec0 c := by
  unfold Pipeline.ΦA
  rw [scopedRest0_eq, show (dats A 0 c).Φ (Fin.last (cfgA F).N) = Phi A c (cfgA F).N from rfl]
  unfold Phi
  iintro ⟨⟨%a0, %a1, %a2, %a3, %a4, %a5, -, HS0, HS1, HS2, HS3, HS4, HS5⟩, -, -, HR⟩
  isplitr [HR]; swap; · iexact HR
  isplitl [HS0]; · iexists a0; iexact HS0
  isplitl [HS1]; · iexists a1; iexact HS1
  isplitl [HS2]; · iexists a2; iexact HS2
  isplitl [HS3]; · iexists a3; iexact HS3
  isplitl [HS4]; · iexists a4; iexact HS4
  iexists a5; iexact HS5

end Cert.KernelIdeal.Attn

end
-- ==== Proof.Run.lean ====
/- The whole program: the host lines, then the grid. -/
module

public import proofs.«01_k».proof.Proof.Body

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-- The launch contents, after the host's lines: what the call finds. -/
def W₀ (m : (ℓ : Loc nD τ sig) → Buf (Elt F) ℓ) (c : Dev nD) : Valuation τ sig (Elt F) :=
  StableHlo.after (hostOps0 (F := F)) (fun b => m (c, b))

/-- The same, by the reference the program names a buffer by. -/
def V₀ (m : (ℓ : Loc nD τ sig) → Buf (Elt F) ℓ) (c : Dev nD) (b : Ref sig .tc) : Buf (Elt F) ((c : Thread nD τ).loc b) :=
  W₀ m c b

/-- The arrays of the six windows at the call. -/
def A₀ (m : (ℓ : Loc nD τ sig) → Buf (Elt F) ℓ) (w : Fin 6) (c : Dev nD) : Buf (Elt F) ((spec0 w).arr.view.loc (c : Thread nD τ)) :=
  V₀ m c (Pipeline.arrRef spec0 w)

theorem fresh0 : (hostOps0 : List (HloOp τ sig (Elt F))).Forall fun op => op.fresh = ∅ :=
  ⟨rfl, rfl, rfl, rfl, rfl, rfl, rfl, rfl, rfl, rfl, rfl, rfl, rfl⟩

/-- The host's lines leave the arguments and lay the two tables down. -/
theorem W_arg0 (m : (ℓ : Loc nD τ sig) → Buf (Elt F) ℓ) (c : Dev nD) : V₀ m c main_arg0 = m ((c : Thread nD τ).loc main_arg0) := rfl
theorem W_arg1 (m : (ℓ : Loc nD τ sig) → Buf (Elt F) ℓ) (c : Dev nD) : V₀ m c main_arg1 = m ((c : Thread nD τ).loc main_arg1) := rfl
theorem W_arg2 (m : (ℓ : Loc nD τ sig) → Buf (Elt F) ℓ) (c : Dev nD) : V₀ m c main_arg2 = m ((c : Thread nD τ).loc main_arg2) := rfl
theorem W_arg3 (m : (ℓ : Loc nD τ sig) → Buf (Elt F) ℓ) (c : Dev nD) : V₀ m c main_arg3 = m ((c : Thread nD τ).loc main_arg3) := rfl
theorem W_arg4 (m : (ℓ : Loc nD τ sig) → Buf (Elt F) ℓ) (c : Dev nD) : V₀ m c main_arg4 = m ((c : Thread nD τ).loc main_arg4) := rfl
theorem W_tab (m : (ℓ : Loc nD τ sig) → Buf (Elt F) ℓ) (c : Dev nD) (k : Fin 2) : V₀ m c (pre0.ref k) = (adm (F := F)).1 k := by
  fin_cases k <;> rfl

set_option backward.isDefEq.respectTransparency.types false in
/-- Every run of the program ends with the result array at what the grid's points wrote and all counters at zero. -/
theorem run_main (m : (ℓ : Loc nD τ sig) → Buf (Elt F) ℓ) (g : Dev nD → PrngReg) :
    θ_run (defs (F := F)) (onTc (τ := τ) (main (F := F))) ⟨m, fun _ => 0, g⟩ (fun r =>
      Pipeline.FramePost (U' := UR sig nD τ) (pcs F) (dats (A₀ m)) (0 : Fin 1) (V₀ m) r ∧ r.2.sem = fun _ => 0) :=
  Pipeline.θ_run_frameP_track (pcfgs (F := F)) (fun _ => adm (F := F)) (dats (A₀ m)) 0 launch0 (defs₀ (F := F)) Variants.none m g (main (F := F))
    (fun c => (body_obligation (A₀ m) c).loose) (fun c w => share_eq (A₀ m) c w) (fun _ _ => rfl) (V₀ m)
    (Pipeline.hmainP_prefix (pcfgs (F := F)) 0 (defs₀ (F := F)) Variants.none m (main (F := F)) hostOps0 hostOps0_sub fresh0 main_chain)
    (fun _ _ => rfl) (fun c k => W_tab m c k) (fun c => phi_start (A₀ m) c) (fun c => phi_end (A₀ m) c)
    _ (fun _ h => h)

end Cert.KernelIdeal.Attn

end
-- ==== Proof.Frames.lean ====
/- The kernel's frames, both from the one run. -/
module

public import proofs.«01_k».proof.Proof.Run
public import proofs.«01_k».proof.Proof.Gen.Kernel
public import proofs.«01_k».proof.Defs

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-- The program over the values `F` runs, leaves its arguments and ends with every counter at zero. -/
def FrameAt (F : FTy → Type) [FloatOps F] [Named F] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The printed program, unidealized, does so over the machine's words. -/
def FrameK : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

theorem mem_rest (b : Ref sig .tc) (hs : b.isScoped = false) (ha : ∀ w : Fin 6, (spec0 w).arr.view.ref ≠ b) :
    b ∈ Pipeline.restRefs sig (pcs F 0).spec := Pipeline.mem_restRefs_of b hs ha

/-- A run leaves each argument as it was: none is an array of the call's. -/
theorem args_kept (m : (ℓ : Loc nD τ sig) → Buf (Elt F) ℓ) (r : PUnit × MemSt nD τ sig (Elt F))
    (h : Pipeline.FramePost (U' := UR sig nD τ) (pcs F) (dats (A₀ m)) (0 : Fin 1) (V₀ m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).2 main_arg0 (mem_rest (F := F) _ (by decide) (by decide))).trans (W_arg0 m c),
   ((h c).2 main_arg1 (mem_rest (F := F) _ (by decide) (by decide))).trans (W_arg1 m c),
   ((h c).2 main_arg2 (mem_rest (F := F) _ (by decide) (by decide))).trans (W_arg2 m c),
   ((h c).2 main_arg3 (mem_rest (F := F) _ (by decide) (by decide))).trans (W_arg3 m c),
   ((h c).2 main_arg4 (mem_rest (F := F) _ (by decide) (by decide))).trans (W_arg4 m c)⟩

theorem frame_at : FrameAt F := fun m g =>
  (θ_run _ _ _).mono (fun r h => ⟨fun c => args_kept m r h.1 c, h.2⟩) (run_main m g)

set_option backward.proofsInPublic true in
/-- Over the machine's words the two programs are one: the named constants are then the words they stand for. -/
theorem frame_bits : FrameK = FrameAt Bits := by sl_kernel_rfl

theorem frame_ideal : Cert.quiescent_KernelIdeal := fun m g _ => frame_at m g
theorem frame_kernel : Cert.quiescent_Kernel := fun m g _ => (frame_bits.mpr frame_at : FrameK) m g

end Cert.KernelIdeal.Attn

end
-- ==== Proof.Blocks.lean ====
/- Which entries of the arrays each point reads and writes. -/
module

public import proofs.«01_k».proof.Proof.Steps
public import Idealize.ShloMosaic.Lib.Pointwise
public import Idealize.ShloMosaic.Lib.Pipeline.ValueKit

@[expose] public section

set_option maxRecDepth 16384
set_option Elab.async false

noncomputable section

namespace Cert.KernelIdeal.Attn

open Cert.KernelIdeal Cert.KernelIdeal.Gen
open Idealize.ShloMosaic
open Idealize.ShloMosaic.TcCoe

variable (A : (w : Fin 6) → (c : Dev nD) → Buf (Elt Ideal) ((spec0 w).arr.view.loc (c : Thread nD τ)))

/-! ## Which block each window reads, decided at every point -/

theorem idx0' : ∀ t : Fin grid0.N, cc0_transform_0 k0_off1_inb numel1_S1 (pf (F := Bits)) (crd t) = ![0, (iW t).toNat] := by decide +kernel
theorem idx1' : ∀ t : Fin grid0.N, cc0_transform_1 k0_off1_inb numel1_S1 (pf (F := Bits)) (crd t) = ![(jW t).toNat, 0] := by decide +kernel
theorem idx2' : ∀ t : Fin grid0.N, cc0_transform_2 k0_off1_inb numel1_S1 (pf (F := Bits)) (crd t) = ![0, (jW t).toNat] := by decide +kernel
theorem idx3' : ∀ t : Fin grid0.N, cc0_transform_3 (crd t) = ![0, 0] := by decide +kernel
theorem idx4' : ∀ t : Fin grid0.N, cc0_transform_4 (crd t) = ![0, 0] := by decide +kernel
theorem idx5' : ∀ t : Fin grid0.N, cc0_transform_5 k0_off1_inb numel1_S1 (pf (F := Bits)) (crd t) = ![0, (iW t).toNat] := by decide +kernel
theorem idx0 (t : Fin grid0.N) : ((cfgA Ideal).win 0).index t = ![0, (iW t).toNat] := idx0' t
theorem idx1 (t : Fin grid0.N) : ((cfgA Ideal).win 1).index t = ![(jW t).toNat, 0] := idx1' t
theorem idx2 (t : Fin grid0.N) : ((cfgA Ideal).win 2).index t = ![0, (jW t).toNat] := idx2' t
theorem idx3 (t : Fin grid0.N) : ((cfgA Ideal).win 3).index t = ![0, 0] := idx3' t
theorem idx4 (t : Fin grid0.N) : ((cfgA Ideal).win 4).index t = ![0, 0] := idx4' t
theorem idx5 (t : Fin grid0.N) : ((cfgA Ideal).win 5).index t = ![0, (iW t).toNat] := idx5' t

/-! ## The blocks, entry by entry -/

theorem b0 (c : Dev nD) (t : Fin grid0.N) (l q : Fin 512) (n : Fin 16384) (hn : n.val = (iW t).toNat * 512 + q.val) :
    iblk (F := Ideal) A c 0 t (ix2 l q) = A 0 c (ix2 l n) := by
  unfold iblk
  blk_simp
  refine congrArg (A 0 c) (funext fun a => Fin.ext ?_)
  have e : ((((((cfgA Ideal).win 0).blk t).view.emb (ix2 l q)) a : Fin _) : ℕ) = ((cfgA Ideal).win 0).index t a * ((cfgA Ideal).win 0).size a + 1 * ((ix2 l q) a : Fin _).val := rfl
  rw [e, idx0]
  fin_cases a
  · show 0 * 512 + 1 * l.val = l.val; omega
  · show (iW t).toNat * 512 + 1 * q.val = n.val; omega

theorem b1 (c : Dev nD) (t : Fin grid0.N) (k l : Fin 512) (n : Fin 16384) (hn : n.val = (jW t).toNat * 512 + k.val) :
    iblk (F := Ideal) A c 1 t (ix2 k l) = A 1 c (ix2 n l) := by
  unfold iblk
  blk_simp
  refine congrArg (A 1 c) (funext fun a => Fin.ext ?_)
  have e : ((((((cfgA Ideal).win 1).blk t).view.emb (ix2 k l)) a : Fin _) : ℕ) = ((cfgA Ideal).win 1).index t a * ((cfgA Ideal).win 1).size a + 1 * ((ix2 k l) a : Fin _).val := rfl
  rw [e, idx1]
  fin_cases a
  · show (jW t).toNat * 512 + 1 * k.val = n.val; omega
  · show 0 * 512 + 1 * l.val = l.val; omega

theorem b2 (c : Dev nD) (t : Fin grid0.N) (l k : Fin 512) (n : Fin 16384) (hn : n.val = (jW t).toNat * 512 + k.val) :
    iblk (F := Ideal) A c 2 t (ix2 l k) = A 2 c (ix2 l n) := by
  unfold iblk
  blk_simp
  refine congrArg (A 2 c) (funext fun a => Fin.ext ?_)
  have e : ((((((cfgA Ideal).win 2).blk t).view.emb (ix2 l k)) a : Fin _) : ℕ) = ((cfgA Ideal).win 2).index t a * ((cfgA Ideal).win 2).size a + 1 * ((ix2 l k) a : Fin _).val := rfl
  rw [e, idx2]
  fin_cases a
  · show 0 * 512 + 1 * l.val = l.val; omega
  · show (jW t).toNat * 512 + 1 * k.val = n.val; omega

theorem b3 (c : Dev nD) (t : Fin grid0.N) (y : S4x64.Idx) : iblk (F := Ideal) A c 3 t y = A 3 c y := by
  unfold iblk
  blk_simp
  refine congrArg (A 3 c) (funext fun a => Fin.ext ?_)
  have e : ((((((cfgA Ideal).win 3).blk t).view.emb y) a : Fin _) : ℕ) = ((cfgA Ideal).win 3).index t a * ((cfgA Ideal).win 3).size a + 1 * (y a : Fin _).val := rfl
  rw [e, idx3]
  fin_cases a
  · show 0 * 4 + 1 * (y 0).val = (y 0).val; omega
  · show 0 * 64 + 1 * (y 1).val = (y 1).val; omega

theorem b4 (c : Dev nD) (t : Fin grid0.N) (y : S128x1.Idx) : iblk (F := Ideal) A c 4 t y = A 4 c y := by
  unfold iblk
  blk_simp
  refine congrArg (A 4 c) (funext fun a => Fin.ext ?_)
  have e : ((((((cfgA Ideal).win 4).blk t).view.emb y) a : Fin _) : ℕ) = ((cfgA Ideal).win 4).index t a * ((cfgA Ideal).win 4).size a + 1 * (y a : Fin _).val := rfl
  rw [e, idx4]
  fin_cases a
  · show 0 * 128 + 1 * (y 0).val = (y 0).val; omega
  · show 0 * 1 + 1 * (y 1).val = (y 1).val; omega

/-- Where an entry of the result's block lies in the result. -/
theorem e5 (t : Fin grid0.N) (y : S512x512.Idx) (n : Fin 16384) (hn : n.val = (iW t).toNat * 512 + (y 1).val) :
    (((cfgA Ideal).win 5).blk t).view.emb y = (ix2 (y 0) n : S512x16384.Idx) := by
  refine funext fun a => Fin.ext ?_
  have e : ((((((cfgA Ideal).win 5).blk t).view.emb y) a : Fin _) : ℕ) = ((cfgA Ideal).win 5).index t a * ((cfgA Ideal).win 5).size a + 1 * (y a : Fin _).val := rfl
  rw [e, idx5]
  fin_cases a
  · show 0 * 512 + 1 * (y 0).val = (y 0).val; omega
  · show (iW t).toNat * 512 + 1 * (y 1).val = n.val; omega

theorem covers5 : ((cfgA Bits).win 5).Covers := by decide +kernel

/-- A point that is not a row block's first follows the point of the key block before. -/
theorem pred_pt : ∀ t : Fin grid0.N, (jW t).toNat = 0 ∨ (t.val ≠ 0 ∧ (iW ⟨t.val - 1, Nat.lt_of_le_of_lt (Nat.sub_le _ _) t.isLt⟩).toNat = (iW t).toNat
    ∧ (jW ⟨t.val - 1, Nat.lt_of_le_of_lt (Nat.sub_le _ _) t.isLt⟩).toNat + 1 = (jW t).toNat) := by decide +kernel

end Cert.KernelIdeal.Attn

end
-- ==== Proof.Core.lean ====
/- One point of the online softmax written entry by entry, and buffers written piece by piece read back. -/
module

public import proofs.«01_k».proof.Proof.Words
public import Idealize.ShloMosaic.Lib.Pointwise
public import Idealize.ShloMosaic.Lib.Pipeline.ValueKit
public import Idealize.ShloMosaic.Lib.Pipeline.RowLoads

@[expose] public section

set_option maxRecDepth 16384
set_option Elab.async false

noncomputable section

namespace Cert.KernelIdeal.Attn

open Cert.KernelIdeal Cert.KernelIdeal.Gen
open Idealize.ShloMosaic
open Idealize.ShloMosaic.TcCoe

/-! ## One point of the online softmax, entry by entry -/

/-- The scale the queries are multiplied by. -/
abbrev sg : EReal := Named.named (F := Ideal) κ "scale" (φ := .f32) 1043900987#32

/-- `a + r`, with nothing added where `a` is zero. -/
def shift (a r : ℕ) : ℕ := match a with
  | 0 => r
  | n + 1 => n + 1 + r

theorem shift_eq (a r : ℕ) : shift a r = a + r := by
  cases a with
  | zero => exact (Nat.zero_add r).symm
  | succ n => rfl

/-- Lane `d` of head map `u`, among the 512 lanes of a query or a key. -/
abbrev hd (u : Fin 8) (d : Fin 64) : Fin 512 := ⟨shift (64 * u.val) d.val, by rw [shift_eq]; omega⟩
/-- Lane `r` of the values head map `u` weighs. -/
abbrev vd (u : Fin 8) (r : Fin 144) (h : r.val < 128) : Fin 512 := ⟨shift (128 * (u.val / 2)) r.val, by rw [shift_eq]; omega⟩
/-- The first and the second half of a block of 512 keys. -/
abbrev lo (k : Fin 256) : Fin 512 := ⟨k.val, by omega⟩
abbrev hi (k : Fin 256) : Fin 512 := ⟨256 + k.val, by omega⟩

/-- The score of key `k` against query `q`, by head map `u`. -/
def sc (u : Fin 8) (x0 x1 : S512x512.Idx → EReal) (k q : Fin 512) : EReal :=
  ∑ d : Fin 64, x1 (ix2 k (hd u d)) * (x0 (ix2 (hd u d) q) * sg)

/-- Where the running maximum starts, and what a masked score is. -/
abbrev sN : EReal := Named.named (F := Ideal) κ "mask" (φ := .f32) 4048155338#32

/-- The score where the key is not after the query, query block `a`, key block `b`; masked elsewhere. -/
def scD (a b : BitVec 32) (u : Fin 8) (x0 x1 : S512x512.Idx → EReal) (k q : Fin 512) : EReal :=
  Scalar.select (IntOp.cmpi .sle
      (IntOp.addi (Scalar.addi (Scalar.muli b 512#32) (if k.val < 256 then 0#32 else 256#32)) (BitVec.ofNat 32 (k.val % 256)))
      (IntOp.addi (Scalar.muli a 512#32) (BitVec.ofNat 32 q.val)))
    (sc u x0 x1 k q) sN

theorem scD_lo (a b : BitVec 32) (u : Fin 8) (x0 x1 : S512x512.Idx → EReal) (k : Fin 256) (q : Fin 512) :
    scD a b u x0 x1 (lo k) q = Scalar.select (IntOp.cmpi .sle
      (IntOp.addi (Scalar.addi (Scalar.muli b 512#32) 0#32) (BitVec.ofNat 32 k.val))
      (IntOp.addi (Scalar.muli a 512#32) (BitVec.ofNat 32 q.val)))
    (sc u x0 x1 (lo k) q) sN := by
  unfold scD
  rw [if_pos (show (lo k).val < 256 from k.isLt), show (lo k).val % 256 = k.val from Nat.mod_eq_of_lt k.isLt]

theorem scD_hi (a b : BitVec 32) (u : Fin 8) (x0 x1 : S512x512.Idx → EReal) (k : Fin 256) (q : Fin 512) :
    scD a b u x0 x1 (hi k) q = Scalar.select (IntOp.cmpi .sle
      (IntOp.addi (Scalar.addi (Scalar.muli b 512#32) 256#32) (BitVec.ofNat 32 k.val))
      (IntOp.addi (Scalar.muli a 512#32) (BitVec.ofNat 32 q.val)))
    (sc u x0 x1 (hi k) q) sN := by
  unfold scD
  rw [if_neg (show ¬(hi k).val < 256 from by show ¬(256 + k.val < 256); omega),
    show (hi k).val % 256 = k.val from by show (256 + k.val) % 256 = k.val; omega]

/-- The word a table holds for the point. -/
abbrev tw (T : S528.Idx → Elt Ideal .i32) (i : grid0.Coords) : BitVec 32 := T (ix1 ⟨k0_off1 i 0, Nat.lt_of_succ_le (k0_off1_inb i 0)⟩)

theorem wI_eq (T : S528.Idx → Elt Ideal .i32) (i : grid0.Coords) : wI (F := Ideal) T i = tw T i := by
  show T _ = T _
  congr 1
  funext a; apply Fin.ext
  match a with
  | ⟨0, _⟩ => show k0_off1 i 0 + 1 * 0 = k0_off1 i 0; omega

theorem wJ_eq (T : S528.Idx → Elt Ideal .i32) (i : grid0.Coords) : wJ (F := Ideal) T i = tw T i := by
  show T _ = T _
  congr 1
  funext a; apply Fin.ext
  match a with
  | ⟨0, _⟩ => show k0_off1 i 0 + 1 * 0 = k0_off1 i 0; omega

/-- The running maximum after a block of scores `S`. -/
def mNew (S : Fin 512 → Fin 512 → EReal) (mo : EReal) (q : Fin 512) : EReal :=
  max (max mo (Finset.fold max (Ideal.ofBits .f32 4286578688#32) (fun k : Fin 256 => S (lo k) q) Finset.univ))
    (Finset.fold max (Ideal.ofBits .f32 4286578688#32) (fun k : Fin 256 => S (hi k) q) Finset.univ)

/-- The values, with a one below them that counts the weights. -/
def vv (u : Fin 8) (x2 : S512x512.Idx → EReal) (r : Fin 144) (k : Fin 512) : EReal :=
  if h : r.val < 128 then x2 (ix2 (vd u r h) k) else 1

/-- The accumulator after a block of scores `S`. -/
def accNew (u : Fin 8) (S : Fin 512 → Fin 512 → EReal) (x2 : S512x512.Idx → EReal) (mo ao : EReal) (r : Fin 144) (q : Fin 512) : EReal :=
  FloatOps.exp2 (F := Ideal) (φ := .f32) (mo - mNew S mo q) * ao
    + ∑ k : Fin 256, vv u x2 r (lo k) * FloatOps.exp2 (F := Ideal) (φ := .f32) (S (lo k) q - mNew S mo q)
    + ∑ k : Fin 256, vv u x2 r (hi k) * FloatOps.exp2 (F := Ideal) (φ := .f32) (S (hi k) q - mNew S mo q)

/-! ## The end of a row block -/

/-- Head `h`'s two maps. -/
abbrev ev (h : Fin 4) : Fin 8 := ⟨2 * h.val, by omega⟩
abbrev od (h : Fin 4) : Fin 8 := ⟨2 * h.val + 1, by omega⟩
/-- Row `r` of head `h` in the result. -/
abbrev row (h : Fin 4) (r : Fin 128) : Fin 512 := ⟨128 * h.val + r.val, by omega⟩

/-- The weight of the second map, out of its four vectors. -/
def lamE (x3 : S4x64.Idx → EReal) : EReal :=
  Ideal.exp (∑ d : Fin 64, x3 (ix2 0 d) * x3 (ix2 1 d)) - Ideal.exp (∑ d : Fin 64, x3 (ix2 2 d) * x3 (ix2 3 d)) + Ideal.ofBits FTy.f32 1045220557#32

/-- The difference of a head's two maps, out of their accumulators. -/
def cmb (A B : Fin 144 → EReal) (lam : EReal) (r : Fin 128) : EReal :=
  Ideal.div (A ⟨r.val, by omega⟩) (A 128) - lam * Ideal.div (B ⟨r.val, by omega⟩) (B 128)

/-- A head's values normalised, and scaled by the gain. -/
def nrm (c : Fin 128 → EReal) (x4 : S128x1.Idx → EReal) (r : Fin 128) : EReal :=
  c r * Ideal.rsqrt (Ideal.div (∑ x : Fin 128, c x * c x) (Ideal.ofBits FTy.f32 1124073472#32) + Ideal.ofBits FTy.f32 897988541#32)
    * x4 (ix2 r 0) * Ideal.ofBits FTy.f32 1061997773#32

def outF (A B : Fin 144 → EReal) (x3 : S4x64.Idx → EReal) (x4 : S128x1.Idx → EReal) (r : Fin 128) : EReal :=
  nrm (cmb A B (lamE x3)) x4 r

/-! ## A buffer written piece by piece, read back -/

section
variable {Val : EltTy → Type} [∀ e, Nonempty (Val e)] {e : EltTy}

theorem cov_hi (v : View sig .tc .vmem S512x512 e) (w1 : S256x512.Idx → Val e)
    (L : List (View.Piece Val S512x512 e)) (h : ∀ a, (![256, 0] : Fin 2 → Nat) a + S256x512.size a ≤ S512x512.size a) :
    v.readCov ((⟨Rect.unit (s := S512x512) ![256, 0] (no_index S256x512.size) h, w1⟩ : View.Piece Val S512x512 e) :: L)
      (Rect.unit (s := S512x512) ![256, 0] (no_index S256x512.size) h).toLoadRect = w1 :=
  View.readCov_cons_toLoadRect v (Rect.unit (s := S512x512) ![256, 0] S256x512.size h) w1 L

theorem cov_lo (v : View sig .tc .vmem S512x512 e) (w1 w0 : S256x512.Idx → Val e)
    (L : List (View.Piece Val S512x512 e)) (h : ∀ a, (![256, 0] : Fin 2 → Nat) a + S256x512.size a ≤ S512x512.size a)
    (h' : ∀ a, (![0, 0] : Fin 2 → Nat) a + S256x512.size a ≤ S512x512.size a) :
    v.readCov ((⟨Rect.unit (s := S512x512) ![256, 0] (no_index S256x512.size) h, w1⟩ : View.Piece Val S512x512 e)
        :: (⟨Rect.unit (s := S512x512) ![0, 0] (no_index S256x512.size) h', w0⟩ : View.Piece Val S512x512 e) :: L)
      (Rect.unit (s := S512x512) ![0, 0] (no_index S256x512.size) h').toLoadRect = w0 := by
  rw [View.readCov_cons_of_disjoint v (⟨Rect.unit (s := S512x512) ![256, 0] S256x512.size h, w1⟩ : View.Piece Val S512x512 e) _ _
    (Rect.unit_disjoint (inb := h) (inb' := h') 0 (Or.inr (le_refl _)))]
  exact View.readCov_cons_toLoadRect v (Rect.unit (s := S512x512) ![0, 0] S256x512.size h') w0 L

theorem mrow_hit (v : View sig .tc .vmem S8x512 e) (n : ℕ) (w : S1x512.Idx → Val e) (L : List (View.Piece Val S8x512 e))
    (h : ∀ a, (![n, 0] : Fin 2 → Nat) a + S1x512.size a ≤ S8x512.size a) :
    v.readCov ((⟨Rect.unit (s := S8x512) ![n, 0] (no_index S1x512.size) h, w⟩ : View.Piece Val S8x512 e) :: L)
      (Rect.unit (s := S8x512) ![n, 0] (no_index S1x512.size) h).toLoadRect = w :=
  View.readCov_cons_toLoadRect v (Rect.unit (s := S8x512) ![n, 0] S1x512.size h) w L

theorem mrow_miss (v : View sig .tc .vmem S8x512 e) (n n' : ℕ) (w : S1x512.Idx → Val e) (L : List (View.Piece Val S8x512 e))
    (h : ∀ a, (![n, 0] : Fin 2 → Nat) a + S1x512.size a ≤ S8x512.size a)
    (h' : ∀ a, (![n', 0] : Fin 2 → Nat) a + S1x512.size a ≤ S8x512.size a) (hn : n + 1 ≤ n' ∨ n' + 1 ≤ n) :
    v.readCov ((⟨Rect.unit (s := S8x512) ![n, 0] (no_index S1x512.size) h, w⟩ : View.Piece Val S8x512 e) :: L)
      (Rect.unit (s := S8x512) ![n', 0] (no_index S1x512.size) h').toLoadRect
      = v.readCov L (Rect.unit (s := S8x512) ![n', 0] S1x512.size h').toLoadRect :=
  View.readCov_cons_of_disjoint v (⟨Rect.unit (s := S8x512) ![n, 0] S1x512.size h, w⟩ : View.Piece Val S8x512 e) _ _
    (Rect.unit_disjoint (inb := h) (inb' := h') 0 hn)

theorem mrow_init (v : View sig .tc .vmem S8x512 e) (w : S8x512.Idx → Val e) (B : LoadRect S8x512)
    (h : ∀ a, (![0, 0] : Fin 2 → Nat) a + S8x512.size a ≤ S8x512.size a) :
    v.readCov [(⟨Rect.unit (s := S8x512) ![0, 0] (no_index S8x512.size) h, w⟩ : View.Piece Val S8x512 e)] B = fun j => w (B.idx j) := by
  rw [View.readCov_eq_canon']
  exact funext fun j => congrFun (View.canon_cons_unit_lit h w [] (by decide)) _

theorem arow_hit (v : View sig .tc .vmem S8x144x512 e) (n : ℕ) (w : S1x144x512.Idx → Val e) (L : List (View.Piece Val S8x144x512 e))
    (h : ∀ a, (![n, 0, 0] : Fin 3 → Nat) a + S1x144x512.size a ≤ S8x144x512.size a) :
    v.readCov ((⟨Rect.unit (s := S8x144x512) ![n, 0, 0] (no_index S1x144x512.size) h, w⟩ : View.Piece Val S8x144x512 e) :: L)
      (Rect.unit (s := S8x144x512) ![n, 0, 0] (no_index S1x144x512.size) h).toLoadRect = w :=
  View.readCov_cons_toLoadRect v (Rect.unit (s := S8x144x512) ![n, 0, 0] S1x144x512.size h) w L

theorem arow_miss (v : View sig .tc .vmem S8x144x512 e) (n n' : ℕ) (w : S1x144x512.Idx → Val e) (L : List (View.Piece Val S8x144x512 e))
    (h : ∀ a, (![n, 0, 0] : Fin 3 → Nat) a + S1x144x512.size a ≤ S8x144x512.size a)
    (h' : ∀ a, (![n', 0, 0] : Fin 3 → Nat) a + S1x144x512.size a ≤ S8x144x512.size a) (hn : n + 1 ≤ n' ∨ n' + 1 ≤ n) :
    v.readCov ((⟨Rect.unit (s := S8x144x512) ![n, 0, 0] (no_index S1x144x512.size) h, w⟩ : View.Piece Val S8x144x512 e) :: L)
      (Rect.unit (s := S8x144x512) ![n', 0, 0] (no_index S1x144x512.size) h').toLoadRect
      = v.readCov L (Rect.unit (s := S8x144x512) ![n', 0, 0] S1x144x512.size h').toLoadRect :=
  View.readCov_cons_of_disjoint v (⟨Rect.unit (s := S8x144x512) ![n, 0, 0] S1x144x512.size h, w⟩ : View.Piece Val S8x144x512 e) _ _
    (Rect.unit_disjoint (inb := h) (inb' := h') 0 hn)

theorem arow_init (v : View sig .tc .vmem S8x144x512 e) (w : S8x144x512.Idx → Val e) (B : LoadRect S8x144x512)
    (h : ∀ a, (![0, 0, 0] : Fin 3 → Nat) a + S8x144x512.size a ≤ S8x144x512.size a) :
    v.readCov [(⟨Rect.unit (s := S8x144x512) ![0, 0, 0] (no_index S8x144x512.size) h, w⟩ : View.Piece Val S8x144x512 e)] B = fun j => w (B.idx j) := by
  rw [View.readCov_eq_canon']
  exact funext fun j => congrFun (View.canon_cons_unit_lit h w [] (by decide)) _

/-- The rows of the maxima, one piece each. -/
theorem canon_m {u : Fin 8} (n : ℕ) (q : Fin 512) (w : S1x512.Idx → Val e) (L : List (View.Piece Val S8x512 e))
    (h : ∀ a, (![n, 0] : Fin 2 → Nat) a + S1x512.size a ≤ S8x512.size a) :
    View.canon ((⟨Rect.unit (s := S8x512) ![n, 0] (no_index S1x512.size) h, w⟩ : View.Piece Val S8x512 e) :: L) (ix2 u q)
      = if u.val = n then w (ix2 0 q) else View.canon L (ix2 u q) := by
  split
  · rename_i hu
    have : (ix2 u q : S8x512.Idx) = (Rect.unit (s := S8x512) ![n, 0] S1x512.size h).emb (ix2 (0 : Fin 1) q) := by
      funext a; apply Fin.ext; match a with
      | ⟨0, _⟩ => show u.val = n + 1 * 0; omega
      | ⟨1, _⟩ => show q.val = 0 + 1 * q.val; omega
    rw [this]; exact View.canon_cons_emb (Rect.unit (s := S8x512) ![n, 0] S1x512.size h) w L _
  · rename_i hu
    refine View.canon_cons_of_not_mem _ _ fun hm => ?_
    obtain ⟨x, hx⟩ := LoadRect.exists_idx_of_mem _ hm
    have h0 : n + 1 * (x 0).val = u.val := congrArg (fun z : S8x512.Idx => (z 0).val) hx
    have : (x 0).val < 1 := (x 0).isLt
    omega

/-- The rows of the accumulators, one piece each. -/
theorem canon_a {u : Fin 8} (n : ℕ) (r : Fin 144) (q : Fin 512) (w : S1x144x512.Idx → Val e) (L : List (View.Piece Val S8x144x512 e))
    (h : ∀ a, (![n, 0, 0] : Fin 3 → Nat) a + S1x144x512.size a ≤ S8x144x512.size a) :
    View.canon ((⟨Rect.unit (s := S8x144x512) ![n, 0, 0] (no_index S1x144x512.size) h, w⟩ : View.Piece Val S8x144x512 e) :: L) (ix3 u r q)
      = if u.val = n then w (ix3 0 r q) else View.canon L (ix3 u r q) := by
  split
  · rename_i hu
    have : (ix3 u r q : S8x144x512.Idx) = (Rect.unit (s := S8x144x512) ![n, 0, 0] S1x144x512.size h).emb (ix3 (0 : Fin 1) r q) := by
      funext a; apply Fin.ext; match a with
      | ⟨0, _⟩ => show u.val = n + 1 * 0; omega
      | ⟨1, _⟩ => show r.val = 0 + 1 * r.val; omega
      | ⟨2, _⟩ => show q.val = 0 + 1 * q.val; omega
    rw [this]; exact View.canon_cons_emb (Rect.unit (s := S8x144x512) ![n, 0, 0] S1x144x512.size h) w L _
  · rename_i hu
    refine View.canon_cons_of_not_mem _ _ fun hm => ?_
    obtain ⟨x, hx⟩ := LoadRect.exists_idx_of_mem _ hm
    have h0 : n + 1 * (x 0).val = u.val := congrArg (fun z : S8x144x512.Idx => (z 0).val) hx
    have : (x 0).val < 1 := (x 0).isLt
    omega

/-- The rows of the result, 128 to a piece. -/
theorem canon_o {h : Fin 4} {r : Fin 128} (n : ℕ) (q : Fin 512) (w : S128x512.Idx → Val e) (L : List (View.Piece Val S512x512 e))
    (hh : ∀ a, (![n, 0] : Fin 2 → Nat) a + S128x512.size a ≤ S512x512.size a) :
    (128 * h.val = n → View.canon ((⟨Rect.unit (s := S512x512) ![n, 0] (no_index S128x512.size) hh, w⟩ : View.Piece Val S512x512 e) :: L) (ix2 (row h r) q) = w (ix2 r q))
    ∧ ((128 * h.val + 128 ≤ n ∨ n + 128 ≤ 128 * h.val) → View.canon ((⟨Rect.unit (s := S512x512) ![n, 0] (no_index S128x512.size) hh, w⟩ : View.Piece Val S512x512 e) :: L) (ix2 (row h r) q)
      = View.canon L (ix2 (row h r) q)) := by
  constructor
  · intro hu
    have : (ix2 (row h r) q : S512x512.Idx) = (Rect.unit (s := S512x512) ![n, 0] S128x512.size hh).emb (ix2 r q) := by
      funext a; apply Fin.ext; match a with
      | ⟨0, _⟩ => show 128 * h.val + r.val = n + 1 * r.val; omega
      | ⟨1, _⟩ => show q.val = 0 + 1 * q.val; omega
    rw [this]; exact View.canon_cons_emb (Rect.unit (s := S512x512) ![n, 0] S128x512.size hh) w L _
  · intro hu
    refine View.canon_cons_of_not_mem _ _ fun hm => ?_
    obtain ⟨x, hx⟩ := LoadRect.exists_idx_of_mem _ hm
    have h0 : n + 1 * (x 0).val = 128 * h.val + r.val := congrArg (fun z : S512x512.Idx => (z 0).val) hx
    have : (x 0).val < 128 := (x 0).isLt
    omega

end

end Cert.KernelIdeal.Attn

end
-- ==== Proof.Soft.lean ====
/- The online softmax over the real numbers: after any number of blocks the accumulators are weighted sums, measured from some real number. -/
module

public import proofs.«01_k».proof.Proof.Core
public import Idealize.ShloMosaic.PureOps.Ideal.Laws

@[expose] public section

set_option maxRecDepth 16384
set_option Elab.async false

noncomputable section

namespace Cert.KernelIdeal.Attn

open Cert.KernelIdeal Cert.KernelIdeal.Gen
open Idealize.ShloMosaic
open Idealize.ShloMosaic.TcCoe

/-! ## The weights as real numbers -/

/-- Two to the power of a score; nothing for a masked one. -/
def eR (x : EReal) : ℝ := if x = ⊥ then 0 else Real.rpow 2 x.toReal

theorem eR_coe (r : ℝ) : eR (r : EReal) = Real.rpow 2 r := by unfold eR; rw [if_neg (EReal.coe_ne_bot r), EReal.toReal_coe]
theorem eR_bot : eR ⊥ = 0 := if_pos rfl
theorem eR_nonneg (x : EReal) : 0 ≤ eR x := by
  unfold eR; split
  · exact le_refl _
  · exact Real.rpow_nonneg (by norm_num) _
theorem p2_pos (r : ℝ) : 0 < Real.rpow 2 r := Real.rpow_pos_of_pos (by norm_num) r
theorem p2_add (a b : ℝ) : Real.rpow 2 (a + b) = Real.rpow 2 a * Real.rpow 2 b := Real.rpow_add (by norm_num) a b

theorem e2_sub {x : EReal} (hx : x ≠ ⊤) (M : ℝ) :
    FloatOps.exp2 (F := Ideal) (φ := .f32) (x - (M : EReal)) = ((eR x * Real.rpow 2 (-M) : ℝ) : EReal) := by
  induction x with
  | bot =>
    show Ideal.exp2 (⊥ - (M : EReal)) = _
    rw [EReal.bot_sub, eR_bot, zero_mul]; rfl
  | top => exact absurd rfl hx
  | coe r =>
    show Ideal.exp2 ((r : EReal) - (M : EReal)) = _
    rw [← EReal.coe_sub, Ideal.exp2_coe, eR_coe, ← p2_add, sub_eq_add_neg]

theorem neg_inf : Ideal.ofBits .f32 4286578688#32 = ⊥ := by simp [Ideal.ofBits, Ideal.ieee]

theorem fold_max {n : ℕ} (f : Fin n → EReal) : Finset.fold max (Ideal.ofBits .f32 4286578688#32) f Finset.univ = Finset.univ.sup f := by
  rw [neg_inf]; rfl

theorem mNew_real (S : Fin 512 → Fin 512 → EReal) (mo : EReal) (q : Fin 512) (hmo : mo ≠ ⊤) (hS : ∀ k, S k q ≠ ⊤)
    (h : mo ≠ ⊥ ∨ ∃ k, S k q ≠ ⊥) : ∃ M : ℝ, mNew S mo q = M := by
  have h1 : mNew S mo q ≠ ⊤ := by
    unfold mNew; rw [fold_max, fold_max]
    refine ne_of_lt (max_lt (max_lt (lt_top_iff_ne_top.2 hmo) ?_) ?_)
    · exact (Finset.sup_lt_iff bot_lt_top).2 fun k _ => lt_top_iff_ne_top.2 (hS _)
    · exact (Finset.sup_lt_iff bot_lt_top).2 fun k _ => lt_top_iff_ne_top.2 (hS _)
  have h2 : mNew S mo q ≠ ⊥ := by
    unfold mNew; rw [fold_max, fold_max]
    intro hb
    obtain ⟨hb, hh⟩ := max_eq_bot.1 hb
    obtain ⟨hm, hl⟩ := max_eq_bot.1 hb
    rcases h with h | ⟨k, hk⟩
    · exact h hm
    · by_cases hk' : k.val < 256
      · exact hk (by have := (Finset.sup_eq_bot_iff _ _).1 hl ⟨k.val, hk'⟩ (Finset.mem_univ _); exact this)
      · have e : hi ⟨k.val - 256, by omega⟩ = k := Fin.ext (by show 256 + (k.val - 256) = k.val; omega)
        exact hk (by have := (Finset.sup_eq_bot_iff _ _).1 hh ⟨k.val - 256, by omega⟩ (Finset.mem_univ _); rw [e] at this; exact this)
  exact ⟨_, (EReal.coe_toReal h1 h2).symm⟩

theorem coe_sum' {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem sum_halves (f : Fin 512 → ℝ) : ∑ k, f k = ∑ k : Fin 256, f (lo k) + ∑ k : Fin 256, f (hi k) :=
  Fin.sum_univ_add (M := ℝ) (a := 256) (b := 256) f

theorem half (v f : Fin 256 → ℝ) (V E : Fin 256 → EReal) (M : ℝ) (hV : ∀ k, V k = v k)
    (hE : ∀ k, E k = ((f k * Real.rpow 2 (-M) : ℝ) : EReal)) :
    ∑ k, V k * E k = (((∑ k, v k * f k) * Real.rpow 2 (-M) : ℝ) : EReal) := by
  rw [Finset.sum_mul, coe_sum']
  refine Finset.sum_congr rfl fun k _ => ?_
  rw [hV, hE, ← EReal.coe_mul, mul_assoc]

/-- What the accumulators gain from a block of scores. -/
def gain (S : Fin 512 → Fin 512 → EReal) (v : Fin 144 → Fin 512 → ℝ) (q : Fin 512) (r : Fin 144) : ℝ := ∑ k, v r k * eR (S k q)

theorem acc_real (u : Fin 8) (S : Fin 512 → Fin 512 → EReal) (x2 : S512x512.Idx → EReal) (mo ao : EReal) (r : Fin 144) (q : Fin 512) (M T : ℝ)
    (hM : mNew S mo q = M) (v : Fin 144 → Fin 512 → ℝ) (hv : ∀ r k, vv u x2 r k = v r k) (hS : ∀ k, S k q ≠ ⊤)
    (hao : FloatOps.exp2 (F := Ideal) (φ := .f32) (mo - (M : EReal)) * ao = ((T * Real.rpow 2 (-M) : ℝ) : EReal)) :
    accNew u S x2 mo ao r q = (((T + gain S v q r) * Real.rpow 2 (-M) : ℝ) : EReal) := by
  unfold accNew
  rw [hM, hao, half (fun k => v r (lo k)) (fun k => eR (S (lo k) q)) _ _ M (fun k => hv r _) (fun k => e2_sub (hS _) M),
    half (fun k => v r (hi k)) (fun k => eR (S (hi k) q)) _ _ M (fun k => hv r _) (fun k => e2_sub (hS _) M), ← EReal.coe_add, ← EReal.coe_add]
  unfold gain
  rw [sum_halves, add_mul, add_mul, add_assoc]

/-- The running maximum is some real number, and the accumulators are the weighted sums `T` measured from it. -/
def Sums (mo : EReal) (ao : Fin 144 → EReal) (T : Fin 144 → ℝ) : Prop := ∃ M : ℝ, mo = M ∧ ∀ r, ao r = ((T r * Real.rpow 2 (-M) : ℝ) : EReal)

theorem sums_start (u : Fin 8) (S : Fin 512 → Fin 512 → EReal) (x2 : S512x512.Idx → EReal) (mo : EReal) (q : Fin 512) (hmo : mo = ⊥)
    (v : Fin 144 → Fin 512 → ℝ) (hv : ∀ r k, vv u x2 r k = v r k) (hS : ∀ k, S k q ≠ ⊤) (h : ∃ k, S k q ≠ ⊥) :
    Sums (mNew S mo q) (fun r => accNew u S x2 mo 0 r q) (gain S v q) := by
  obtain ⟨M, hM⟩ := mNew_real S mo q (by rw [hmo]; exact bot_ne_top) hS (Or.inr h)
  refine ⟨M, hM, fun r => ?_⟩
  have := acc_real u S x2 mo 0 r q M 0 hM v hv hS (by rw [mul_zero, zero_mul]; rfl)
  rw [zero_add] at this; exact this

theorem sums_step (u : Fin 8) (S : Fin 512 → Fin 512 → EReal) (x2 : S512x512.Idx → EReal) (mo : EReal) (ao : Fin 144 → EReal) (q : Fin 512) (T : Fin 144 → ℝ)
    (hT : Sums mo ao T)
    (v : Fin 144 → Fin 512 → ℝ) (hv : ∀ r k, vv u x2 r k = v r k) (hS : ∀ k, S k q ≠ ⊤) :
    Sums (mNew S mo q) (fun r => accNew u S x2 mo (ao r) r q) (fun r => T r + gain S v q r) := by
  obtain ⟨M0, hm, ha⟩ := hT
  obtain ⟨M, hM⟩ := mNew_real S mo q (by rw [hm]; exact EReal.coe_ne_top _) hS (Or.inl (by rw [hm]; exact EReal.coe_ne_bot _))
  refine ⟨M, hM, fun r => acc_real u S x2 mo (ao r) r q M (T r) hM v hv hS ?_⟩
  rw [ha, hm, e2_sub (EReal.coe_ne_top _), eR_coe, ← EReal.coe_mul]
  congr 1
  have : Real.rpow 2 M0 * Real.rpow 2 (-M0) = 1 := by rw [← p2_add, add_neg_cancel]; exact Real.rpow_zero 2
  calc Real.rpow 2 M0 * Real.rpow 2 (-M) * (T r * Real.rpow 2 (-M0)) = (Real.rpow 2 M0 * Real.rpow 2 (-M0)) * (T r * Real.rpow 2 (-M)) := by ring
    _ = _ := by rw [this, one_mul]

theorem sums_div {mo : EReal} {ao : Fin 144 → EReal} {T : Fin 144 → ℝ} (hT : Sums mo ao T) (hp : 0 < T 128) (r : Fin 144) :
    Ideal.div (ao r) (ao 128) = ((T r / T 128 : ℝ) : EReal) := by
  obtain ⟨M, -, ha⟩ := hT
  have hM := p2_pos (-M)
  rw [ha, ha, Ideal.div_coe (ne_of_gt (mul_pos hp hM)), ← EReal.coe_mul]
  congr 1
  field_simp

theorem cmb_real {mA mB : EReal} {A B : Fin 144 → EReal} {TA TB : Fin 144 → ℝ} (hA : Sums mA A TA) (hB : Sums mB B TB)
    (pA : 0 < TA 128) (pB : 0 < TB 128) (l : ℝ) (r : Fin 128) :
    cmb A B (l : EReal) r = ((TA ⟨r.val, by omega⟩ / TA 128 - l * (TB ⟨r.val, by omega⟩ / TB 128) : ℝ) : EReal) := by
  unfold cmb
  rw [sums_div hA pA, sums_div hB pB, ← EReal.coe_mul, ← EReal.coe_sub]

end Cert.KernelIdeal.Attn

end
-- ==== Proof.Scores.lean ====
/- The scores of a point, as real numbers; the weighted sums they add up to. -/
module

public import proofs.«01_k».proof.Proof.Blocks
public import proofs.«01_k».proof.Proof.Soft

@[expose] public section

set_option maxRecDepth 16384
set_option Elab.async false

noncomputable section

namespace Cert.KernelIdeal.Attn

open Cert.KernelIdeal Cert.KernelIdeal.Gen
open Idealize.ShloMosaic
open Idealize.ShloMosaic.TcCoe

variable (A : (w : Fin 6) → (c : Dev nD) → Buf (Elt Ideal) ((spec0 w).arr.view.loc (c : Thread nD τ)))

/-! ## Scores, weights and weighted sums over all the keys, as real numbers -/

variable (Q K V : Fin 512 → ℕ → ℝ)

/-- The score of key `k` against query `n`, to the base two. -/
def sig (u : Fin 8) (k n : ℕ) : ℝ := ∑ d : Fin 64, K (hd u d) k * (Q (hd u d) n * ((1 / 8) * (Real.log 2)⁻¹))
/-- The values, with a one below them that counts the weights. -/
def vr (u : Fin 8) (r : Fin 144) (k : ℕ) : ℝ := if h : r.val < 128 then V (vd u r h) k else 1
/-- What key `k` weighs with query `n`: nothing if it comes after. -/
def wt (u : Fin 8) (k n : ℕ) : ℝ := if k ≤ n then Real.rpow 2 (sig Q K u k n) else 0
/-- The weighted sum over the first `j` blocks of keys. -/
def part (u : Fin 8) (n : ℕ) (j : ℕ) (r : Fin 144) : ℝ := ∑ k ∈ Finset.range (512 * j), vr V u r k * wt Q K u k n

/-- The three arrays hold these real numbers. -/
structure Holds (c : Dev nD) : Prop where
  q : ∀ (l : Fin 512) (n : Fin 16384), A 0 c (ix2 l n) = ((Q l n.val : ℝ) : EReal)
  k : ∀ (l : Fin 512) (n : Fin 16384), A 1 c (ix2 n l) = ((K l n.val : ℝ) : EReal)
  v : ∀ (l : Fin 512) (n : Fin 16384), A 2 c (ix2 l n) = ((V l n.val : ℝ) : EReal)

theorem part_zero (u : Fin 8) (n : ℕ) (r : Fin 144) : part Q K V u n 0 r = 0 := Finset.sum_range_zero _

theorem part_succ (u : Fin 8) (n j : ℕ) (r : Fin 144) :
    part Q K V u n (j + 1) r = part Q K V u n j r + ∑ k : Fin 512, vr V u r (512 * j + k.val) * wt Q K u (512 * j + k.val) n := by
  unfold part
  rw [Nat.mul_succ, Finset.sum_range_add, Finset.sum_range (n := 512)]

theorem sg_val : sg = (((1 / 8) * (Real.log 2)⁻¹ : ℝ) : EReal) := IdealRules.named_const.ideal_named_scalar _ _ _ _ rfl
theorem sN_val : sN = ⊥ := IdealRules.named_const.ideal_named_scalar _ _ _ _ rfl

/-! ## The words of a point -/

theorem pl (t : Fin grid0.N) : (jW t).toNat ≤ (iW t).toNat ∧ (iW t).toNat < 32 := ⟨(facts t).2.1, (facts t).2.2.1⟩
theorem j_of_P0 (t : Fin grid0.N) (h : P0 t) : (jW t).toNat = 0 := by
  have := (facts t).1.1
  by_contra hn
  rw [decide_eq_false hn] at this
  exact this h
theorem j_of_nP0 (t : Fin grid0.N) (h : ¬P0 t) : (jW t).toNat ≠ 0 := by
  have := (facts t).1.1
  intro hn
  rw [decide_eq_true hn] at this
  exact h this
theorem j_of_P1 (t : Fin grid0.N) (h : P1 t) : (jW t).toNat < (iW t).toNat := by
  have := (facts t).1.2.1
  rcases Nat.lt_or_eq_of_le (pl t).1 with hl | he
  · exact hl
  · rw [decide_eq_true he] at this
    exact absurd h this
theorem j_of_nP1 (t : Fin grid0.N) (h : ¬P1 t) : (jW t).toNat = (iW t).toNat := by
  have := (facts t).1.2.1
  by_contra hn
  rw [decide_eq_false hn] at this
  exact h this
theorem tw_I (t : Fin grid0.N) : tw TI (crd t) = iW t := (wI_eq TI (crd t)).symm
theorem tw_J (t : Fin grid0.N) : tw TJ (crd t) = jW t := (wJ_eq TJ (crd t)).symm

/-- The mask compares the key's place with the query's. -/
theorem mask_eq (a b : BitVec 32) (ha : a.toNat < 32) (hb : b.toNat < 32) (k q : Fin 512) :
    IntOp.cmpi .sle
      (IntOp.addi (Scalar.addi (Scalar.muli b 512#32) (if k.val < 256 then 0#32 else 256#32)) (BitVec.ofNat 32 (k.val % 256)))
      (IntOp.addi (Scalar.muli a 512#32) (BitVec.ofNat 32 q.val))
      = if 512 * b.toNat + k.val ≤ 512 * a.toNat + q.val then 1#1 else 0#1 := by
  have h1 : (IntOp.addi (Scalar.addi (Scalar.muli b 512#32) (if k.val < 256 then 0#32 else 256#32)) (BitVec.ofNat 32 (k.val % 256))).toNat
      = 512 * b.toNat + k.val := by
    show ((b * 512#32 + (if k.val < 256 then 0#32 else 256#32)) + BitVec.ofNat 32 (k.val % 256)).toNat = _
    split <;> simp only [BitVec.toNat_add, BitVec.toNat_mul, BitVec.toNat_ofNat] <;> omega
  have h2 : (IntOp.addi (Scalar.muli a 512#32) (BitVec.ofNat 32 q.val)).toNat = 512 * a.toNat + q.val := by
    show (a * 512#32 + BitVec.ofNat 32 q.val).toNat = _
    simp only [BitVec.toNat_add, BitVec.toNat_mul, BitVec.toNat_ofNat]; omega
  generalize IntOp.addi (Scalar.addi (Scalar.muli b 512#32) (if k.val < 256 then 0#32 else 256#32)) (BitVec.ofNat 32 (k.val % 256)) = x at h1 ⊢
  generalize IntOp.addi (Scalar.muli a 512#32) (BitVec.ofNat 32 q.val) = y at h2 ⊢
  have hx : x.toInt = (x.toNat : ℤ) := BitVec.toInt_eq_toNat_of_lt (by omega)
  have hy : y.toInt = (y.toNat : ℤ) := BitVec.toInt_eq_toNat_of_lt (by omega)
  show BitVec.ofBool (x.sle y) = _
  unfold BitVec.sle
  rw [hx, hy, h1, h2]
  by_cases h : 512 * b.toNat + k.val ≤ 512 * a.toNat + q.val
  · rw [if_pos h, decide_eq_true (by exact_mod_cast h)]; rfl
  · rw [if_neg h, decide_eq_false (by exact_mod_cast h)]; rfl

/-! ## A point's scores -/

variable {A Q K V} {c : Dev nD} (H : Holds A Q K V c) (t : Fin grid0.N)
include H

theorem sc_val (u : Fin 8) (k q : Fin 512) : sc u (iblk (F := Ideal) A c 0 t) (iblk (F := Ideal) A c 1 t) k q
    = ((sig Q K u (512 * (jW t).toNat + k.val) (512 * (iW t).toNat + q.val) : ℝ) : EReal) := by
  obtain ⟨h1, h2⟩ := pl t
  unfold sc sig
  rw [coe_sum']
  refine Finset.sum_congr rfl fun d _ => ?_
  rw [b0 A c t (hd u d) q ⟨512 * (iW t).toNat + q.val, by omega⟩ (by show 512 * (iW t).toNat + q.val = _; omega),
    b1 A c t k (hd u d) ⟨512 * (jW t).toNat + k.val, by omega⟩ (by show 512 * (jW t).toNat + k.val = _; omega),
    H.q, H.k, sg_val, ← EReal.coe_mul, ← EReal.coe_mul]

theorem scD_val (u : Fin 8) (k q : Fin 512) : scD (tw TI (crd t)) (tw TJ (crd t)) u (iblk (F := Ideal) A c 0 t) (iblk (F := Ideal) A c 1 t) k q
    = if 512 * (jW t).toNat + k.val ≤ 512 * (iW t).toNat + q.val
      then ((sig Q K u (512 * (jW t).toNat + k.val) (512 * (iW t).toNat + q.val) : ℝ) : EReal) else ⊥ := by
  obtain ⟨h1, h2⟩ := pl t
  unfold scD
  rw [tw_I, tw_J, mask_eq _ _ h2 (by omega), sc_val H t, sN_val]
  by_cases h : 512 * (jW t).toNat + k.val ≤ 512 * (iW t).toNat + q.val
  · rw [if_pos h, if_pos h]; rfl
  · rw [if_neg h, if_neg h]; rfl

theorem vv_val (u : Fin 8) (r : Fin 144) (k : Fin 512) : vv u (iblk (F := Ideal) A c 2 t) r k = ((vr V u r (512 * (jW t).toNat + k.val) : ℝ) : EReal) := by
  obtain ⟨h1, h2⟩ := pl t
  unfold vv vr
  split
  · rw [b2 A c t _ k ⟨512 * (jW t).toNat + k.val, by omega⟩ (by show 512 * (jW t).toNat + k.val = _; omega), H.v]
  · rfl

theorem gain_sc (h : P1 t) (u : Fin 8) (q : Fin 512) :
    gain (sc u (iblk (F := Ideal) A c 0 t) (iblk (F := Ideal) A c 1 t)) (fun r k => vr V u r (512 * (jW t).toNat + k.val)) q
      = fun r => ∑ k : Fin 512, vr V u r (512 * (jW t).toNat + k.val) * wt Q K u (512 * (jW t).toNat + k.val) (512 * (iW t).toNat + q.val) := by
  have hj := j_of_P1 t h
  funext r
  unfold gain
  refine Finset.sum_congr rfl fun k _ => ?_
  rw [sc_val H t, eR_coe]
  unfold wt
  rw [if_pos (by omega)]

theorem gain_scD (u : Fin 8) (q : Fin 512) :
    gain (scD (tw TI (crd t)) (tw TJ (crd t)) u (iblk (F := Ideal) A c 0 t) (iblk (F := Ideal) A c 1 t)) (fun r k => vr V u r (512 * (jW t).toNat + k.val)) q
      = fun r => ∑ k : Fin 512, vr V u r (512 * (jW t).toNat + k.val) * wt Q K u (512 * (jW t).toNat + k.val) (512 * (iW t).toNat + q.val) := by
  funext r
  unfold gain
  refine Finset.sum_congr rfl fun k _ => ?_
  rw [scD_val H t]
  unfold wt
  split
  · rw [eR_coe]
  · rw [eR_bot]

theorem sc_top (u : Fin 8) (q k : Fin 512) : sc u (iblk (F := Ideal) A c 0 t) (iblk (F := Ideal) A c 1 t) k q ≠ ⊤ := by
  rw [sc_val H t]; exact EReal.coe_ne_top _
theorem scD_top (u : Fin 8) (q k : Fin 512) :
    scD (tw TI (crd t)) (tw TJ (crd t)) u (iblk (F := Ideal) A c 0 t) (iblk (F := Ideal) A c 1 t) k q ≠ ⊤ := by
  rw [scD_val H t]
  split
  · exact EReal.coe_ne_top _
  · exact bot_ne_top

end Cert.KernelIdeal.Attn

end
-- ==== Proof.ValA0.lean ====
/- The maxima and accumulators of head maps 0 and 1 at the first point of all, begun, masked and finished at one block. -/
module

public import proofs.«01_k».proof.Proof.Core
public import proofs.«01_k».proof.Proof.RunA

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

theorem mA_1 (q : Fin 512) : (k0_pay131 (F := Ideal) (runA.sl.r_8 (F := Ideal) i arg3 arg4 T0 T1 x0 x1)) (ix2 0 q) = mNew (scD (tw T0 i) (tw T1 i) 1 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

theorem mA_0 (q : Fin 512) : (k0_pay118 (F := Ideal) (runA.sl.r_5 (F := Ideal) i arg3 arg4 T0 T1 x0 x1)) (ix2 0 q) = mNew (scD (tw T0 i) (tw T1 i) 0 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

theorem aA_1 (r : Fin 144) (q : Fin 512) : (k0_pay132 (F := Ideal) (runA.sl.r_23 (F := Ideal) i arg3 arg4 arg5 T0 T1 x0 x1 x2)) (ix3 0 r q) = accNew 1 (scD (tw T0 i) (tw T1 i) 1 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

theorem aA_0 (r : Fin 144) (q : Fin 512) : (k0_pay119 (F := Ideal) (runA.sl.r_17 (F := Ideal) i arg3 arg4 arg5 T0 T1 x0 x1 x2)) (ix3 0 r q) = accNew 0 (scD (tw T0 i) (tw T1 i) 0 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

end Cert.KernelIdeal.Attn

end
-- ==== Proof.ValA2.lean ====
/- The maxima and accumulators of head maps 2 and 3 at the first point of all, begun, masked and finished at one block. -/
module

public import proofs.«01_k».proof.Proof.Core
public import proofs.«01_k».proof.Proof.RunA

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

theorem mA_3 (q : Fin 512) : (k0_pay157 (F := Ideal) (runA.sl.r_19 (F := Ideal) i arg3 arg4 T0 T1 x0 x1)) (ix2 0 q) = mNew (scD (tw T0 i) (tw T1 i) 3 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

theorem mA_2 (q : Fin 512) : (k0_pay146 (F := Ideal) (runA.sl.r_11 (F := Ideal) i arg3 arg4 T0 T1 x0 x1)) (ix2 0 q) = mNew (scD (tw T0 i) (tw T1 i) 2 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

theorem aA_3 (r : Fin 144) (q : Fin 512) : (k0_pay158 (F := Ideal) (runA.sl.r_40 (F := Ideal) i arg3 arg4 arg5 T0 T1 x0 x1 x2)) (ix3 0 r q) = accNew 3 (scD (tw T0 i) (tw T1 i) 3 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

theorem aA_2 (r : Fin 144) (q : Fin 512) : (k0_pay147 (F := Ideal) (runA.sl.r_30 (F := Ideal) i arg3 arg4 arg5 T0 T1 x0 x1 x2) (runA.sl.r_33 (F := Ideal) i arg3 arg4 T0 T1 x0 x1) (runA.sl.r_34 (F := Ideal) arg5 x2)) (ix3 0 r q) = accNew 2 (scD (tw T0 i) (tw T1 i) 2 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

end Cert.KernelIdeal.Attn

end
-- ==== Proof.ValA4.lean ====
/- The maxima and accumulators of head maps 4 and 5 at the first point of all, begun, masked and finished at one block. -/
module

public import proofs.«01_k».proof.Proof.Core
public import proofs.«01_k».proof.Proof.RunA

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

theorem mA_5 (q : Fin 512) : (runA.sl.v668 (F := Ideal) i arg3 arg4 T0 T1 x0 x1) (ix2 0 q) = mNew (scD (tw T0 i) (tw T1 i) 5 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

theorem mA_4 (q : Fin 512) : (k0_pay172 (F := Ideal) (runA.sl.r_26 (F := Ideal) i arg3 arg4 T0 T1 x0 x1)) (ix2 0 q) = mNew (scD (tw T0 i) (tw T1 i) 4 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

theorem aA_5 (r : Fin 144) (q : Fin 512) : (runA.sl.v671 (F := Ideal) i arg3 arg4 arg5 T0 T1 x0 x1 x2) (ix3 0 r q) = accNew 5 (scD (tw T0 i) (tw T1 i) 5 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

theorem aA_4 (r : Fin 144) (q : Fin 512) : (k0_pay173 (F := Ideal) (runA.sl.r_46 (F := Ideal) i arg3 arg4 arg5 T0 T1 x0 x1 x2)) (ix3 0 r q) = accNew 4 (scD (tw T0 i) (tw T1 i) 4 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

end Cert.KernelIdeal.Attn

end
-- ==== Proof.ValA6.lean ====
/- The maxima and accumulators of head maps 6 and 7 at the first point of all, begun, masked and finished at one block. -/
module

public import proofs.«01_k».proof.Proof.Core
public import proofs.«01_k».proof.Proof.RunA

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

theorem mA_7 (q : Fin 512) : (k0_pay195 (F := Ideal) (runA.sl.r_50 (F := Ideal) i arg3 arg4 T0 T1 x0 x1)) (ix2 0 q) = mNew (scD (tw T0 i) (tw T1 i) 7 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

theorem mA_6 (q : Fin 512) : (runA.sl.v703 (F := Ideal) i arg3 arg4 T0 T1 x0 x1) (ix2 0 q) = mNew (scD (tw T0 i) (tw T1 i) 6 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

theorem aA_7 (r : Fin 144) (q : Fin 512) : (k0_pay196 (F := Ideal) (runA.sl.v724 (F := Ideal) i arg3 arg4 arg5 T0 T1 x0 x1 x2) (runA.sl.v728 (F := Ideal) i arg3 arg4 T0 T1 x0 x1) (View.readAt (Elt Ideal) arg5.view (Rect.unit (s := S512x512) ![384, 256] S128x256.size inb_S512x512_S128x256_384_256).toLoadRect (arg5.view.rep x2))) (ix3 0 r q) = accNew 7 (scD (tw T0 i) (tw T1 i) 7 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

theorem aA_6 (r : Fin 144) (q : Fin 512) : (runA.sl.v706 (F := Ideal) i arg3 arg4 arg5 T0 T1 x0 x1 x2) (ix3 0 r q) = accNew 6 (scD (tw T0 i) (tw T1 i) 6 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi, mul_zero, zero_add]
  rfl

end Cert.KernelIdeal.Attn

end
-- ==== Proof.ValAo.lean ====
/- The result written at the first point of all, begun, masked and finished at one block, out of its accumulators. -/
module

public import proofs.«01_k».proof.Proof.Core
public import proofs.«01_k».proof.Proof.RunA

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

/-- The weight of the second map. -/
theorem lamA : (runA.sl.v70 (F := Ideal) arg6 x3) (ix2 0 0) = lamE x3 := by
  delta runA.sl.v70 runA.sl.v68 runA.sl.v69 runA.sl.v66 runA.sl.v67 runA.sl.cst_22 runA.sl.v60 runA.sl.v65 runA.sl.v59 runA.sl.v64 runA.sl.v58 runA.sl.v63 runA.sl.v56 runA.sl.v57 runA.sl.v61 runA.sl.v62_1 runA.sl.v55
  beta_reduce
  simp only [View.readAt_rep, View.readAt_eq_ld, View.read_whole, View.read_rep]
  pointwise
  simp only [lamE]

theorem rA_3_0 (r : Fin 144) (q : Fin 512) : (runA.sl.v170 (F := Ideal) i arg3 arg4 arg5 T0 T1 x0 x1 x2) (ix3 0 r q) = View.canon (runA.sl.HS1_9 (F := Ideal) i arg3 arg4 arg5 T0 T1 x0 x1 x2) (ix3 6 r q) := by
  delta runA.sl.v170
  beta_reduce
  generalize runA.sl.HS1_9 (F := Ideal) i arg3 arg4 arg5 T0 T1 x0 x1 x2 = L
  rw [View.readCov_eq_canon']
  generalize View.canon L = A
  pointwise

theorem rA_3_1 (r : Fin 144) (q : Fin 512) : (runA.sl.v172 (F := Ideal) i arg3 arg4 arg5 T0 T1 x0 x1 x2) (ix3 0 r q) = View.canon (runA.sl.HS1_9 (F := Ideal) i arg3 arg4 arg5 T0 T1 x0 x1 x2) (ix3 7 r q) := by
  delta runA.sl.v172
  beta_reduce
  generalize runA.sl.HS1_9 (F := Ideal) i arg3 arg4 arg5 T0 T1 x0 x1 x2 = L
  rw [View.readCov_eq_canon']
  generalize View.canon L = A
  pointwise

theorem oA_3 (r : Fin 128) (q : Fin 512) : (k0_pay1 (F := Ideal) (runA.sl.v70 (F := Ideal) arg6 x3) (runA.sl.v173 (F := Ideal) i arg3 arg4 arg5 T0 T1 x0 x1 x2) (runA.sl.v177 (F := Ideal) i arg3 arg4 arg5 T0 T1 x0 x1 x2) (View.readAt (Elt Ideal) arg7.view (Rect.unit (s := S128x1) ![0, 0] S128x1.size inb_S128x1_S128x1_0_0).toLoadRect (arg7.view.rep x4))) (ix2 r q) = outF (fun r => View.canon (runA.sl.HS1_9 (F := Ideal) i arg3 arg4 arg5 T0 T1 x0 x1 x2) (ix3 6 r q)) (fun r => View.canon (runA.sl.HS1_9 (F := Ideal) i arg3 arg4 arg5 T0 T1 x0 x1 x2) (ix3 7 r q)) x3 x4 r := by
  simp only [outF, nrm, cmb, ← rA_3_0, ← rA_3_1, ← lamA arg6 x3]
  delta runA.sl.v173 runA.sl.v177 runA.sl.v174 runA.sl.v176 runA.sl.v171 runA.sl.v175
  beta_reduce
  generalize runA.sl.v170 (F := Ideal) i arg3 arg4 arg5 T0 T1 x0 x1 x2 = A
  generalize runA.sl.v172 (F := Ideal) i arg3 arg4 arg5 T0 T1 x0 x1 x2 = B
  generalize runA.sl.v70 (F := Ideal) arg6 x3 = l
  simp only [View.readAt_rep, View.readAt_eq_ld, View.read_whole, View.read_rep]
  unfold_payloads
  pointwise

theorem rA_2_0 (r : Fin 144) (q : Fin 512) : (runA.sl.v137 (F := Ideal) i arg3 arg4 arg5 T0 T1 x0 x1 x2) (ix3 0 r q) = View.canon (runA.sl.HS1_9 (F := Ideal) i arg3 arg4 arg5 T0 T1 x0 x1 x2) (ix3 4 r q) := by
  delta runA.sl.v137
  beta_reduce
  generalize runA.sl.HS1_9 (F := Ideal) i arg3 arg4 arg5 T0 T1 x0 x1 x2 = L
  rw [View.readCov_eq_canon']
  generalize View.canon L = A
  pointwise

theorem rA_2_1 (r : Fin 144) (q : Fin 512) : (runA.sl.v139 (F := Ideal) i arg3 arg4 arg5 T0 T1 x0 x1 x2) (ix3 0 r q) = View.canon (runA.sl.HS1_9 (F := Ideal) i arg3 arg4 arg5 T0 T1 x0 x1 x2) (ix3 5 r q) := by
  delta runA.sl.v139
  beta_reduce
  generalize runA.sl.HS1_9 (F := Ideal) i arg3 arg4 arg5 T0 T1 x0 x1 x2 = L
  rw [View.readCov_eq_canon']
  generalize View.canon L = A
  pointwise

theorem wA_2 (r : Fin 128) (q : Fin 512) : (runA.sl.v151 (F := Ideal) i arg3 arg4 arg5 arg6 T0 T1 x0 x1 x2 x3) (ix2 r q) = cmb (fun r => View.canon (runA.sl.HS1_9 (F := Ideal) i arg3 arg4 arg5 T0 T1 x0 x1 x2) (ix3 4 r q)) (fun r => View.canon (runA.sl.HS1_9 (F := Ideal) i arg3 arg4 arg5 T0 T1 x0 x1 x2) (ix3 5 r q)) (lamE x3) r := by
  simp only [cmb, ← rA_2_0, ← rA_2_1, ← lamA arg6 x3]
  delta runA.sl.v151 runA.sl.v144 runA.sl.v150 runA.sl.v141 runA.sl.v143 runA.sl.v83 runA.sl.v148 runA.sl.v138 runA.sl.v142 runA.sl.v145 runA.sl.v147 runA.sl.v140 runA.sl.v146
  beta_reduce
  generalize runA.sl.v137 (F := Ideal) i arg3 arg4 arg5 T0 T1 x0 x1 x2 = A
  generalize runA.sl.v139 (F := Ideal) i arg3 arg4 arg5 T0 T1 x0 x1 x2 = B
  generalize runA.sl.v70 (F := Ideal) arg6 x3 = l
  pointwise

theorem oA_2 (r : Fin 128) (q : Fin 512) : (runA.sl.v168 (F := Ideal) i arg3 arg4 arg5 arg6 arg7 T0 T1 x0 x1 x2 x3 x4) (ix2 r q) = outF (fun r => View.canon (runA.sl.HS1_9 (F := Ideal) i arg3 arg4 arg5 T0 T1 x0 x1 x2) (ix3 4 r q)) (fun r => View.canon (runA.sl.HS1_9 (F := Ideal) i arg3 arg4 arg5 T0 T1 x0 x1 x2) (ix3 5 r q)) x3 x4 r := by
  have e : (fun r => (runA.sl.v151 (F := Ideal) i arg3 arg4 arg5 arg6 T0 T1 x0 x1 x2 x3) (ix2 r q)) = cmb (fun r => View.canon (runA.sl.HS1_9 (F := Ideal) i arg3 arg4 arg5 T0 T1 x0 x1 x2) (ix3 4 r q)) (fun r => View.canon (runA.sl.HS1_9 (F := Ideal) i arg3 arg4 arg5 T0 T1 x0 x1 x2) (ix3 5 r q)) (lamE x3) := funext fun r => by rw [wA_2]
  unfold outF
  rw [← e]
  delta runA.sl.v168 runA.sl.v167 runA.sl.v165 runA.sl.v100 runA.sl.v161 runA.sl.v98 runA.sl.cst_33 runA.sl.v160 runA.sl.v97 runA.sl.v159 runA.sl.v158 runA.sl.v156 runA.sl.v91 runA.sl.v154 runA.sl.v89 runA.sl.cst_30 runA.sl.v153 runA.sl.cst_29 runA.sl.v152
  beta_reduce
  generalize runA.sl.v151 (F := Ideal) i arg3 arg4 arg5 arg6 T0 T1 x0 x1 x2 x3 = W
  simp only [View.readAt_rep, View.readAt_eq_ld, View.read_whole, View.read_rep]
  pointwise
  simp only [nrm]

theorem rA_1_0 (r : Fin 144) (q : Fin 512) : (runA.sl.v104 (F := Ideal) i arg3 arg4 arg5 T0 T1 x0 x1 x2) (ix3 0 r q) = View.canon (runA.sl.HS1_9 (F := Ideal) i arg3 arg4 arg5 T0 T1 x0 x1 x2) (ix3 2 r q) := by
  delta runA.sl.v104
  beta_reduce
  generalize runA.sl.HS1_9 (F := Ideal) i arg3 arg4 arg5 T0 T1 x0 x1 x2 = L
  rw [View.readCov_eq_canon']
  generalize View.canon L = A
  pointwise

theorem rA_1_1 (r : Fin 144) (q : Fin 512) : (runA.sl.v106 (F := Ideal) i arg3 arg4 arg5 T0 T1 x0 x1 x2) (ix3 0 r q) = View.canon (runA.sl.HS1_9 (F := Ideal) i arg3 arg4 arg5 T0 T1 x0 x1 x2) (ix3 3 r q) := by
  delta runA.sl.v106
  beta_reduce
  generalize runA.sl.HS1_9 (F := Ideal) i arg3 arg4 arg5 T0 T1 x0 x1 x2 = L
  rw [View.readCov_eq_canon']
  generalize View.canon L = A
  pointwise

theorem wA_1 (r : Fin 128) (q : Fin 512) : (runA.sl.v118 (F := Ideal) i arg3 arg4 arg5 arg6 T0 T1 x0 x1 x2 x3) (ix2 r q) = cmb (fun r => View.canon (runA.sl.HS1_9 (F := Ideal) i arg3 arg4 arg5 T0 T1 x0 x1 x2) (ix3 2 r q)) (fun r => View.canon (runA.sl.HS1_9 (F := Ideal) i arg3 arg4 arg5 T0 T1 x0 x1 x2) (ix3 3 r q)) (lamE x3) r := by
  simp only [cmb, ← rA_1_0, ← rA_1_1, ← lamA arg6 x3]
  delta runA.sl.v118 runA.sl.v111 runA.sl.v117 runA.sl.v108 runA.sl.v110 runA.sl.v83 runA.sl.v115 runA.sl.v105 runA.sl.v109 runA.sl.v112 runA.sl.v114 runA.sl.v107 runA.sl.v113_1
  beta_reduce
  generalize runA.sl.v104 (F := Ideal) i arg3 arg4 arg5 T0 T1 x0 x1 x2 = A
  generalize runA.sl.v106 (F := Ideal) i arg3 arg4 arg5 T0 T1 x0 x1 x2 = B
  generalize runA.sl.v70 (F := Ideal) arg6 x3 = l
  pointwise

theorem oA_1 (r : Fin 128) (q : Fin 512) : (runA.sl.v135 (F := Ideal) i arg3 arg4 arg5 arg6 arg7 T0 T1 x0 x1 x2 x3 x4) (ix2 r q) = outF (fun r => View.canon (runA.sl.HS1_9 (F := Ideal) i arg3 arg4 arg5 T0 T1 x0 x1 x2) (ix3 2 r q)) (fun r => View.canon (runA.sl.HS1_9 (F := Ideal) i arg3 arg4 arg5 T0 T1 x0 x1 x2) (ix3 3 r q)) x3 x4 r := by
  have e : (fun r => (runA.sl.v118 (F := Ideal) i arg3 arg4 arg5 arg6 T0 T1 x0 x1 x2 x3) (ix2 r q)) = cmb (fun r => View.canon (runA.sl.HS1_9 (F := Ideal) i arg3 arg4 arg5 T0 T1 x0 x1 x2) (ix3 2 r q)) (fun r => View.canon (runA.sl.HS1_9 (F := Ideal) i arg3 arg4 arg5 T0 T1 x0 x1 x2) (ix3 3 r q)) (lamE x3) := funext fun r => by rw [wA_1]
  unfold outF
  rw [← e]
  delta runA.sl.v135 runA.sl.v134 runA.sl.v132 runA.sl.v100 runA.sl.v128 runA.sl.v98 runA.sl.cst_33 runA.sl.v127 runA.sl.v97 runA.sl.v126 runA.sl.v125 runA.sl.v123 runA.sl.v91 runA.sl.v121 runA.sl.v89 runA.sl.cst_30 runA.sl.v120 runA.sl.cst_29 runA.sl.v119
  beta_reduce
  generalize runA.sl.v118 (F := Ideal) i arg3 arg4 arg5 arg6 T0 T1 x0 x1 x2 x3 = W
  simp only [View.readAt_rep, View.readAt_eq_ld, View.read_whole, View.read_rep]
  pointwise
  simp only [nrm]

theorem rA_0_0 (r : Fin 144) (q : Fin 512) : (runA.sl.v71 (F := Ideal) i arg3 arg4 arg5 T0 T1 x0 x1 x2) (ix3 0 r q) = View.canon (runA.sl.HS1_9 (F := Ideal) i arg3 arg4 arg5 T0 T1 x0 x1 x2) (ix3 0 r q) := by
  delta runA.sl.v71
  beta_reduce
  generalize runA.sl.HS1_9 (F := Ideal) i arg3 arg4 arg5 T0 T1 x0 x1 x2 = L
  rw [View.readCov_eq_canon']
  generalize View.canon L = A
  pointwise

theorem rA_0_1 (r : Fin 144) (q : Fin 512) : (runA.sl.v73 (F := Ideal) i arg3 arg4 arg5 T0 T1 x0 x1 x2) (ix3 0 r q) = View.canon (runA.sl.HS1_9 (F := Ideal) i arg3 arg4 arg5 T0 T1 x0 x1 x2) (ix3 1 r q) := by
  delta runA.sl.v73
  beta_reduce
  generalize runA.sl.HS1_9 (F := Ideal) i arg3 arg4 arg5 T0 T1 x0 x1 x2 = L
  rw [View.readCov_eq_canon']
  generalize View.canon L = A
  pointwise

theorem wA_0 (r : Fin 128) (q : Fin 512) : (runA.sl.v85 (F := Ideal) i arg3 arg4 arg5 arg6 T0 T1 x0 x1 x2 x3) (ix2 r q) = cmb (fun r => View.canon (runA.sl.HS1_9 (F := Ideal) i arg3 arg4 arg5 T0 T1 x0 x1 x2) (ix3 0 r q)) (fun r => View.canon (runA.sl.HS1_9 (F := Ideal) i arg3 arg4 arg5 T0 T1 x0 x1 x2) (ix3 1 r q)) (lamE x3) r := by
  simp only [cmb, ← rA_0_0, ← rA_0_1, ← lamA arg6 x3]
  delta runA.sl.v85 runA.sl.v78 runA.sl.v84 runA.sl.v75 runA.sl.v77 runA.sl.v83 runA.sl.v82 runA.sl.v72 runA.sl.v76 runA.sl.v79 runA.sl.v81 runA.sl.v74 runA.sl.v80
  beta_reduce
  generalize runA.sl.v71 (F := Ideal) i arg3 arg4 arg5 T0 T1 x0 x1 x2 = A
  generalize runA.sl.v73 (F := Ideal) i arg3 arg4 arg5 T0 T1 x0 x1 x2 = B
  generalize runA.sl.v70 (F := Ideal) arg6 x3 = l
  pointwise

theorem oA_0 (r : Fin 128) (q : Fin 512) : (runA.sl.v102 (F := Ideal) i arg3 arg4 arg5 arg6 arg7 T0 T1 x0 x1 x2 x3 x4) (ix2 r q) = outF (fun r => View.canon (runA.sl.HS1_9 (F := Ideal) i arg3 arg4 arg5 T0 T1 x0 x1 x2) (ix3 0 r q)) (fun r => View.canon (runA.sl.HS1_9 (F := Ideal) i arg3 arg4 arg5 T0 T1 x0 x1 x2) (ix3 1 r q)) x3 x4 r := by
  have e : (fun r => (runA.sl.v85 (F := Ideal) i arg3 arg4 arg5 arg6 T0 T1 x0 x1 x2 x3) (ix2 r q)) = cmb (fun r => View.canon (runA.sl.HS1_9 (F := Ideal) i arg3 arg4 arg5 T0 T1 x0 x1 x2) (ix3 0 r q)) (fun r => View.canon (runA.sl.HS1_9 (F := Ideal) i arg3 arg4 arg5 T0 T1 x0 x1 x2) (ix3 1 r q)) (lamE x3) := funext fun r => by rw [wA_0]
  unfold outF
  rw [← e]
  delta runA.sl.v102 runA.sl.v101 runA.sl.v99 runA.sl.v100 runA.sl.v95 runA.sl.v98 runA.sl.cst_33 runA.sl.v94 runA.sl.v97 runA.sl.v93 runA.sl.v92 runA.sl.v90 runA.sl.v91 runA.sl.v88 runA.sl.v89 runA.sl.cst_30 runA.sl.v87 runA.sl.cst_29 runA.sl.v86
  beta_reduce
  generalize runA.sl.v85 (F := Ideal) i arg3 arg4 arg5 arg6 T0 T1 x0 x1 x2 x3 = W
  simp only [View.readAt_rep, View.readAt_eq_ld, View.read_whole, View.read_rep]
  pointwise
  simp only [nrm]

end Cert.KernelIdeal.Attn

end
-- ==== Proof.ValA.lean ====
/- What the first point of all, begun, masked and finished at one block leaves. -/
module

public import proofs.«01_k».proof.Proof.ValA0
public import proofs.«01_k».proof.Proof.ValA2
public import proofs.«01_k».proof.Proof.ValA4
public import proofs.«01_k».proof.Proof.ValA6
public import proofs.«01_k».proof.Proof.ValAo

@[expose] public section

set_option maxRecDepth 16384
set_option Elab.async false

noncomputable section

namespace Cert.KernelIdeal.Attn

open Cert.KernelIdeal Cert.KernelIdeal.Gen
open Idealize.ShloMosaic
open Idealize.ShloMosaic.TcCoe

variable (c : Dev nD) (i : grid0.Coords)
  (arg3 : Memref sig .tc .vmem S512x512 .bf16) (harg3 : arg3.IsWhole) (arg4 : Memref sig .tc .vmem S512x512 .bf16) (harg4 : arg4.IsWhole)
  (arg5 : Memref sig .tc .vmem S512x512 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S512x512 .bf16) (harg8 : arg8.IsWhole)
  (T0 T1 : S528.Idx → Elt Ideal .i32) (x0 x1 x2 : S512x512.Idx → Elt Ideal .bf16) (x3 : S4x64.Idx → Elt Ideal .f32) (x4 : S128x1.Idx → Elt Ideal .f32)
  (h0 : (isFirst (wJ (F := Ideal) T1 i) = 1#1)) (h1 : ¬(isBelow (wI (F := Ideal) T0 i) (wJ (F := Ideal) T1 i) = 1#1)) (h2 : (isDiag (wI (F := Ideal) T0 i) (wJ (F := Ideal) T1 i) = 1#1)) (h4 : (k0_cond4 (wI (F := Ideal) T0 i) (wJ (F := Ideal) T1 i) = 1#1))

theorem mA_all (u : Fin 8) (q : Fin 512) : (runA (F := Ideal) c i arg3 harg3 arg4 harg4 arg5 harg5 arg6 harg6 arg7 harg7 arg8 harg8 T0 T1 x0 x1 x2 x3 x4 h0 h1 h2 h4).2.1 (ix2 u q) = mNew (scD (tw T0 i) (tw T1 i) u x0 x1) sN q := by
  have e : (runA (F := Ideal) c i arg3 harg3 arg4 harg4 arg5 harg5 arg6 harg6 arg7 harg7 arg8 harg8 T0 T1 x0 x1 x2 x3 x4 h0 h1 h2 h4).2.1 = View.canon (runA.sl.HS0_9 (F := Ideal) i arg3 arg4 T0 T1 x0 x1) := (show (runA (F := Ideal) c i arg3 harg3 arg4 harg4 arg5 harg5 arg6 harg6 arg7 harg7 arg8 harg8 T0 T1 x0 x1 x2 x3 x4 h0 h1 h2 h4).2.1 = sM.view.read (Elt Ideal) (sM.view.writes (Elt Ideal) sM.view.junk (runA.sl.HS0_9 (F := Ideal) i arg3 arg4 T0 T1 x0 x1)) from by delta runA; dsimp only; generalize (View.whole cc0_scratch0).writes (Elt Ideal) _ _ = f; rfl).trans (View.read_writes_junk_eq_canon sM.view _)
  rw [e]
  delta runA.sl.HS0_9 runA.sl.HS0_8 runA.sl.HS0_7 runA.sl.HS0_6 runA.sl.HS0_5 runA.sl.HS0_4 runA.sl.HS0_3 runA.sl.HS0_2 runA.sl.HS0_1
  rw [canon_m]; split
  · rename_i hu; obtain rfl : u = 7 := Fin.ext hu; apply mA_7
  rename_i hn7
  rw [canon_m]; split
  · rename_i hu; obtain rfl : u = 6 := Fin.ext hu; apply mA_6
  rename_i hn6
  rw [canon_m]; split
  · rename_i hu; obtain rfl : u = 5 := Fin.ext hu; apply mA_5
  rename_i hn5
  rw [canon_m]; split
  · rename_i hu; obtain rfl : u = 4 := Fin.ext hu; apply mA_4
  rename_i hn4
  rw [canon_m]; split
  · rename_i hu; obtain rfl : u = 3 := Fin.ext hu; apply mA_3
  rename_i hn3
  rw [canon_m]; split
  · rename_i hu; obtain rfl : u = 2 := Fin.ext hu; apply mA_2
  rename_i hn2
  rw [canon_m]; split
  · rename_i hu; obtain rfl : u = 1 := Fin.ext hu; apply mA_1
  rename_i hn1
  rw [canon_m]; split
  · rename_i hu; obtain rfl : u = 0 := Fin.ext hu; apply mA_0
  rename_i hn0
  have := u.isLt
  omega

theorem aA_all (u : Fin 8) (r : Fin 144) (q : Fin 512) : (runA (F := Ideal) c i arg3 harg3 arg4 harg4 arg5 harg5 arg6 harg6 arg7 harg7 arg8 harg8 T0 T1 x0 x1 x2 x3 x4 h0 h1 h2 h4).2.2.1 (ix3 u r q) = accNew u (scD (tw T0 i) (tw T1 i) u x0 x1) x2 sN 0 r q := by
  have e : (runA (F := Ideal) c i arg3 harg3 arg4 harg4 arg5 harg5 arg6 harg6 arg7 harg7 arg8 harg8 T0 T1 x0 x1 x2 x3 x4 h0 h1 h2 h4).2.2.1 = View.canon (runA.sl.HS1_9 (F := Ideal) i arg3 arg4 arg5 T0 T1 x0 x1 x2) := (show (runA (F := Ideal) c i arg3 harg3 arg4 harg4 arg5 harg5 arg6 harg6 arg7 harg7 arg8 harg8 T0 T1 x0 x1 x2 x3 x4 h0 h1 h2 h4).2.2.1 = sA.view.read (Elt Ideal) (sA.view.writes (Elt Ideal) sA.view.junk (runA.sl.HS1_9 (F := Ideal) i arg3 arg4 arg5 T0 T1 x0 x1 x2)) from by delta runA; dsimp only; generalize (View.whole cc0_scratch1).writes (Elt Ideal) _ _ = f; rfl).trans (View.read_writes_junk_eq_canon sA.view _)
  rw [e]
  delta runA.sl.HS1_9 runA.sl.HS1_8 runA.sl.HS1_7 runA.sl.HS1_6 runA.sl.HS1_5 runA.sl.HS1_4 runA.sl.HS1_3 runA.sl.HS1_2 runA.sl.HS1_1
  rw [canon_a]; split
  · rename_i hu; obtain rfl : u = 7 := Fin.ext hu; apply aA_7
  rename_i hn7
  rw [canon_a]; split
  · rename_i hu; obtain rfl : u = 6 := Fin.ext hu; apply aA_6
  rename_i hn6
  rw [canon_a]; split
  · rename_i hu; obtain rfl : u = 5 := Fin.ext hu; apply aA_5
  rename_i hn5
  rw [canon_a]; split
  · rename_i hu; obtain rfl : u = 4 := Fin.ext hu; apply aA_4
  rename_i hn4
  rw [canon_a]; split
  · rename_i hu; obtain rfl : u = 3 := Fin.ext hu; apply aA_3
  rename_i hn3
  rw [canon_a]; split
  · rename_i hu; obtain rfl : u = 2 := Fin.ext hu; apply aA_2
  rename_i hn2
  rw [canon_a]; split
  · rename_i hu; obtain rfl : u = 1 := Fin.ext hu; apply aA_1
  rename_i hn1
  rw [canon_a]; split
  · rename_i hu; obtain rfl : u = 0 := Fin.ext hu; apply aA_0
  rename_i hn0
  have := u.isLt
  omega

theorem oA_all (h : Fin 4) (r : Fin 128) (q : Fin 512) : View.canon (runA (F := Ideal) c i arg3 harg3 arg4 harg4 arg5 harg5 arg6 harg6 arg7 harg7 arg8 harg8 T0 T1 x0 x1 x2 x3 x4 h0 h1 h2 h4).1 (ix2 (row h r) q)
    = outF (fun r => (runA (F := Ideal) c i arg3 harg3 arg4 harg4 arg5 harg5 arg6 harg6 arg7 harg7 arg8 harg8 T0 T1 x0 x1 x2 x3 x4 h0 h1 h2 h4).2.2.1 (ix3 (ev h) r q)) (fun r => (runA (F := Ideal) c i arg3 harg3 arg4 harg4 arg5 harg5 arg6 harg6 arg7 harg7 arg8 harg8 T0 T1 x0 x1 x2 x3 x4 h0 h1 h2 h4).2.2.1 (ix3 (od h) r q)) x3 x4 r := by
  have e : (runA (F := Ideal) c i arg3 harg3 arg4 harg4 arg5 harg5 arg6 harg6 arg7 harg7 arg8 harg8 T0 T1 x0 x1 x2 x3 x4 h0 h1 h2 h4).2.2.1 = View.canon (runA.sl.HS1_9 (F := Ideal) i arg3 arg4 arg5 T0 T1 x0 x1 x2) := (show (runA (F := Ideal) c i arg3 harg3 arg4 harg4 arg5 harg5 arg6 harg6 arg7 harg7 arg8 harg8 T0 T1 x0 x1 x2 x3 x4 h0 h1 h2 h4).2.2.1 = sA.view.read (Elt Ideal) (sA.view.writes (Elt Ideal) sA.view.junk (runA.sl.HS1_9 (F := Ideal) i arg3 arg4 arg5 T0 T1 x0 x1 x2)) from by delta runA; dsimp only; generalize (View.whole cc0_scratch1).writes (Elt Ideal) _ _ = f; rfl).trans (View.read_writes_junk_eq_canon sA.view _)
  rw [e]
  have e5 : (runA (F := Ideal) c i arg3 harg3 arg4 harg4 arg5 harg5 arg6 harg6 arg7 harg7 arg8 harg8 T0 T1 x0 x1 x2 x3 x4 h0 h1 h2 h4).1 = runA.sl.HO5_4 (F := Ideal) i arg3 arg4 arg5 arg6 arg7 T0 T1 x0 x1 x2 x3 x4 := by delta runA; rfl
  rw [e5]; delta runA.sl.HO5_4
  match h with
  | ⟨0, _⟩ =>
    refine ((canon_o _ _ _ _ _).2 (by show 128 * 0 + 128 ≤ 384 ∨ 384 + 128 ≤ 128 * 0; omega)).trans ?_
    refine ((canon_o _ _ _ _ _).2 (by show 128 * 0 + 128 ≤ 256 ∨ 256 + 128 ≤ 128 * 0; omega)).trans ?_
    refine ((canon_o _ _ _ _ _).2 (by show 128 * 0 + 128 ≤ 128 ∨ 128 + 128 ≤ 128 * 0; omega)).trans ?_
    refine ((canon_o _ _ _ _ _).1 (by show 128 * 0 = 0; omega)).trans ?_
    apply oA_0
  | ⟨1, _⟩ =>
    refine ((canon_o _ _ _ _ _).2 (by show 128 * 1 + 128 ≤ 384 ∨ 384 + 128 ≤ 128 * 1; omega)).trans ?_
    refine ((canon_o _ _ _ _ _).2 (by show 128 * 1 + 128 ≤ 256 ∨ 256 + 128 ≤ 128 * 1; omega)).trans ?_
    refine ((canon_o _ _ _ _ _).1 (by show 128 * 1 = 128; omega)).trans ?_
    apply oA_1
  | ⟨2, _⟩ =>
    refine ((canon_o _ _ _ _ _).2 (by show 128 * 2 + 128 ≤ 384 ∨ 384 + 128 ≤ 128 * 2; omega)).trans ?_
    refine ((canon_o _ _ _ _ _).1 (by show 128 * 2 = 256; omega)).trans ?_
    apply oA_2
  | ⟨3, _⟩ =>
    refine ((canon_o _ _ _ _ _).1 (by show 128 * 3 = 384; omega)).trans ?_
    apply oA_3

end Cert.KernelIdeal.Attn

end
-- ==== Proof.InvA.lean ====
/- The sums a point leaves in the scratch. -/
module

public import proofs.«01_k».proof.Proof.Scores
public import proofs.«01_k».proof.Proof.ValA

@[expose] public section

set_option maxRecDepth 16384
set_option Elab.async false

noncomputable section

namespace Cert.KernelIdeal.Attn

open Cert.KernelIdeal Cert.KernelIdeal.Gen
open Idealize.ShloMosaic
open Idealize.ShloMosaic.TcCoe

variable {A : (w : Fin 6) → (c : Dev nD) → Buf (Elt Ideal) ((spec0 w).arr.view.loc (c : Thread nD τ))}
variable {Q K V : Fin 512 → ℕ → ℝ} {c : Dev nD} (H : Holds A Q K V c) (t : Fin grid0.N)
include H

/-- What the first point of a row block leaves. -/
theorem invA (q0 : P0 t) (q1 : ¬P1 t) :
    ∀ (u : Fin 8) (q : Fin 512),
    Sums (((atA A c t q0 q1).2.1) (ix2 u q)) (fun r => ((atA A c t q0 q1).2.2.1) (ix3 u r q)) (part Q K V u (512 * (iW t).toNat + q.val) ((jW t).toNat + 1)) := by
  intro u q
  have hm := mA_all c (crd t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) TI TJ (iblk (F := Ideal) A c 0 t) (iblk (F := Ideal) A c 1 t) (iblk (F := Ideal) A c 2 t) (iblk (F := Ideal) A c 3 t) (iblk (F := Ideal) A c 4 t) (hypsA (F := Ideal) t q0 q1).1 (hypsA (F := Ideal) t q0 q1).2.1 (hypsA (F := Ideal) t q0 q1).2.2.1 (hypsA (F := Ideal) t q0 q1).2.2.2 u q
  have ha := fun r : Fin 144 => aA_all c (crd t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) TI TJ (iblk (F := Ideal) A c 0 t) (iblk (F := Ideal) A c 1 t) (iblk (F := Ideal) A c 2 t) (iblk (F := Ideal) A c 3 t) (iblk (F := Ideal) A c 4 t) (hypsA (F := Ideal) t q0 q1).1 (hypsA (F := Ideal) t q0 q1).2.1 (hypsA (F := Ideal) t q0 q1).2.2.1 (hypsA (F := Ideal) t q0 q1).2.2.2 u r q
  have h := sums_start u (scD (tw TI (crd t)) (tw TJ (crd t)) u (iblk (F := Ideal) A c 0 t) (iblk (F := Ideal) A c 1 t)) (iblk (F := Ideal) A c 2 t) sN q sN_val
    (fun r k => vr V u r (512 * (jW t).toNat + k.val)) (fun r k => vv_val H t u r k) (fun k => scD_top H t u q k) ⟨0, by rw [scD_val H t, if_pos (by have := j_of_P0 t q0; show 512 * (jW t).toNat + 0 ≤ _; omega)]; exact EReal.coe_ne_bot _⟩
  rw [gain_scD H t u q, ← funext ha, ← hm] at h
  have e : part Q K V u (512 * (iW t).toNat + q.val) ((jW t).toNat + 1) = _ := funext fun r => part_succ Q K V u _ (jW t).toNat r
  rw [e]
  have z : ∀ r, part Q K V u (512 * (iW t).toNat + q.val) (jW t).toNat r = 0 := fun r => by rw [j_of_P0 t q0, part_zero]
  simp only [z, zero_add]
  exact h

end Cert.KernelIdeal.Attn

end
-- ==== Proof.ValB0.lean ====
/- The maxima and accumulators of head maps 0 and 1 and 2 and 3 at the first point of a row block, below the diagonal. -/
module

public import proofs.«01_k».proof.Proof.Core
public import proofs.«01_k».proof.Proof.RunB

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

theorem mB_3 (q : Fin 512) : (k0_pay63 (F := Ideal) (runB.sl.v190 (F := Ideal) arg3 arg4 x0 x1)) (ix2 0 q) = mNew (sc 3 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem mB_2 (q : Fin 512) : (runB.sl.v317 (F := Ideal) arg3 arg4 x0 x1) (ix2 0 q) = mNew (sc 2 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem mB_1 (q : Fin 512) : (runB.sl.v255 (F := Ideal) arg3 arg4 x0 x1) (ix2 0 q) = mNew (sc 1 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem mB_0 (q : Fin 512) : (runB.sl.v193 (F := Ideal) arg3 arg4 x0 x1) (ix2 0 q) = mNew (sc 0 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem aB_3 (r : Fin 144) (q : Fin 512) : (k0_pay64 (F := Ideal) (runB.sl.r_20 (F := Ideal) arg3 arg4 arg5 x0 x1 x2)) (ix3 0 r q) = accNew 3 (sc 3 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [accNew, mul_zero, zero_add]
  rfl

theorem aB_2 (r : Fin 144) (q : Fin 512) : (runB.sl.v320 (F := Ideal) arg3 arg4 arg5 x0 x1 x2) (ix3 0 r q) = accNew 2 (sc 2 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [accNew, mul_zero, zero_add]
  rfl

theorem aB_1 (r : Fin 144) (q : Fin 512) : (runB.sl.v258 (F := Ideal) arg3 arg4 arg5 x0 x1 x2) (ix3 0 r q) = accNew 1 (sc 1 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [accNew, mul_zero, zero_add]
  rfl

theorem aB_0 (r : Fin 144) (q : Fin 512) : (k0_pay30 (F := Ideal) (runB.sl.v181 (F := Ideal) arg3 arg4 arg5 x0 x1 x2)) (ix3 0 r q) = accNew 0 (sc 0 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [accNew, mul_zero, zero_add]
  rfl

end Cert.KernelIdeal.Attn

end
-- ==== Proof.ValB4.lean ====
/- The maxima and accumulators of head maps 4 and 5 and 6 and 7 at the first point of a row block, below the diagonal. -/
module

public import proofs.«01_k».proof.Proof.Core
public import proofs.«01_k».proof.Proof.RunB

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

theorem mB_7 (q : Fin 512) : (runB.sl.v546 (F := Ideal) arg3 arg4 x0 x1) (ix2 0 q) = mNew (sc 7 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem mB_6 (q : Fin 512) : (runB.sl.v511 (F := Ideal) arg3 arg4 x0 x1) (ix2 0 q) = mNew (sc 6 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem mB_5 (q : Fin 512) : (runB.sl.v476 (F := Ideal) arg3 arg4 x0 x1) (ix2 0 q) = mNew (sc 5 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem mB_4 (q : Fin 512) : (runB.sl.v441 (F := Ideal) arg3 arg4 x0 x1) (ix2 0 q) = mNew (sc 4 x0 x1) sN q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem aB_7 (r : Fin 144) (q : Fin 512) : (k0_pay194 (F := Ideal) (runB.sl.v543 (F := Ideal) arg3 arg4 arg5 x0 x1 x2)) (ix3 0 r q) = accNew 7 (sc 7 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [accNew, mul_zero, zero_add]
  rfl

theorem aB_6 (r : Fin 144) (q : Fin 512) : (runB.sl.v514 (F := Ideal) arg3 arg4 arg5 x0 x1 x2) (ix3 0 r q) = accNew 6 (sc 6 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [accNew, mul_zero, zero_add]
  rfl

theorem aB_5 (r : Fin 144) (q : Fin 512) : (runB.sl.v479 (F := Ideal) arg3 arg4 arg5 x0 x1 x2) (ix3 0 r q) = accNew 5 (sc 5 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [accNew, mul_zero, zero_add]
  rfl

theorem aB_4 (r : Fin 144) (q : Fin 512) : (runB.sl.v444 (F := Ideal) arg3 arg4 arg5 x0 x1 x2) (ix3 0 r q) = accNew 4 (sc 4 x0 x1) x2 sN 0 r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [accNew, mul_zero, zero_add]
  rfl

end Cert.KernelIdeal.Attn

end
-- ==== Proof.ValB.lean ====
/- What the first point of a row block, below the diagonal leaves. -/
module

public import proofs.«01_k».proof.Proof.ValB0
public import proofs.«01_k».proof.Proof.ValB4

@[expose] public section

set_option maxRecDepth 16384
set_option Elab.async false

noncomputable section

namespace Cert.KernelIdeal.Attn

open Cert.KernelIdeal Cert.KernelIdeal.Gen
open Idealize.ShloMosaic
open Idealize.ShloMosaic.TcCoe

variable (c : Dev nD) (i : grid0.Coords)
  (arg3 : Memref sig .tc .vmem S512x512 .bf16) (harg3 : arg3.IsWhole) (arg4 : Memref sig .tc .vmem S512x512 .bf16) (harg4 : arg4.IsWhole)
  (arg5 : Memref sig .tc .vmem S512x512 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S512x512 .bf16) (harg8 : arg8.IsWhole)
  (T0 T1 : S528.Idx → Elt Ideal .i32) (x0 x1 x2 : S512x512.Idx → Elt Ideal .bf16) (x3 : S4x64.Idx → Elt Ideal .f32) (x4 : S128x1.Idx → Elt Ideal .f32)
  (h0 : (isFirst (wJ (F := Ideal) T1 i) = 1#1)) (h1 : (isBelow (wI (F := Ideal) T0 i) (wJ (F := Ideal) T1 i) = 1#1)) (h2 : ¬(isDiag (wI (F := Ideal) T0 i) (wJ (F := Ideal) T1 i) = 1#1)) (h4 : ¬(k0_cond4 (wI (F := Ideal) T0 i) (wJ (F := Ideal) T1 i) = 1#1))

theorem mB_all (u : Fin 8) (q : Fin 512) : (runB (F := Ideal) c i arg3 harg3 arg4 harg4 arg5 harg5 arg6 harg6 arg7 harg7 arg8 harg8 T0 T1 x0 x1 x2 x3 x4 h0 h1 h2 h4).1 (ix2 u q) = mNew (sc u x0 x1) sN q := by
  have e : (runB (F := Ideal) c i arg3 harg3 arg4 harg4 arg5 harg5 arg6 harg6 arg7 harg7 arg8 harg8 T0 T1 x0 x1 x2 x3 x4 h0 h1 h2 h4).1 = View.canon (runB.sl.HS0_9 (F := Ideal) arg3 arg4 x0 x1) := (show (runB (F := Ideal) c i arg3 harg3 arg4 harg4 arg5 harg5 arg6 harg6 arg7 harg7 arg8 harg8 T0 T1 x0 x1 x2 x3 x4 h0 h1 h2 h4).1 = sM.view.read (Elt Ideal) (sM.view.writes (Elt Ideal) sM.view.junk (runB.sl.HS0_9 (F := Ideal) arg3 arg4 x0 x1)) from by delta runB; dsimp only; generalize (View.whole cc0_scratch0).writes (Elt Ideal) _ _ = f; rfl).trans (View.read_writes_junk_eq_canon sM.view _)
  rw [e]
  delta runB.sl.HS0_9 runB.sl.HS0_8 runB.sl.HS0_7 runB.sl.HS0_6 runB.sl.HS0_5 runB.sl.HS0_4 runB.sl.HS0_3 runB.sl.HS0_2 runB.sl.HS0_1
  rw [canon_m]; split
  · rename_i hu; obtain rfl : u = 7 := Fin.ext hu; apply mB_7
  rename_i hn7
  rw [canon_m]; split
  · rename_i hu; obtain rfl : u = 6 := Fin.ext hu; apply mB_6
  rename_i hn6
  rw [canon_m]; split
  · rename_i hu; obtain rfl : u = 5 := Fin.ext hu; apply mB_5
  rename_i hn5
  rw [canon_m]; split
  · rename_i hu; obtain rfl : u = 4 := Fin.ext hu; apply mB_4
  rename_i hn4
  rw [canon_m]; split
  · rename_i hu; obtain rfl : u = 3 := Fin.ext hu; apply mB_3
  rename_i hn3
  rw [canon_m]; split
  · rename_i hu; obtain rfl : u = 2 := Fin.ext hu; apply mB_2
  rename_i hn2
  rw [canon_m]; split
  · rename_i hu; obtain rfl : u = 1 := Fin.ext hu; apply mB_1
  rename_i hn1
  rw [canon_m]; split
  · rename_i hu; obtain rfl : u = 0 := Fin.ext hu; apply mB_0
  rename_i hn0
  have := u.isLt
  omega

theorem aB_all (u : Fin 8) (r : Fin 144) (q : Fin 512) : (runB (F := Ideal) c i arg3 harg3 arg4 harg4 arg5 harg5 arg6 harg6 arg7 harg7 arg8 harg8 T0 T1 x0 x1 x2 x3 x4 h0 h1 h2 h4).2.1 (ix3 u r q) = accNew u (sc u x0 x1) x2 sN 0 r q := by
  have e : (runB (F := Ideal) c i arg3 harg3 arg4 harg4 arg5 harg5 arg6 harg6 arg7 harg7 arg8 harg8 T0 T1 x0 x1 x2 x3 x4 h0 h1 h2 h4).2.1 = View.canon (runB.sl.HS1_9 (F := Ideal) arg3 arg4 arg5 x0 x1 x2) := (show (runB (F := Ideal) c i arg3 harg3 arg4 harg4 arg5 harg5 arg6 harg6 arg7 harg7 arg8 harg8 T0 T1 x0 x1 x2 x3 x4 h0 h1 h2 h4).2.1 = sA.view.read (Elt Ideal) (sA.view.writes (Elt Ideal) sA.view.junk (runB.sl.HS1_9 (F := Ideal) arg3 arg4 arg5 x0 x1 x2)) from by delta runB; dsimp only; generalize (View.whole cc0_scratch1).writes (Elt Ideal) _ _ = f; rfl).trans (View.read_writes_junk_eq_canon sA.view _)
  rw [e]
  delta runB.sl.HS1_9 runB.sl.HS1_8 runB.sl.HS1_7 runB.sl.HS1_6 runB.sl.HS1_5 runB.sl.HS1_4 runB.sl.HS1_3 runB.sl.HS1_2 runB.sl.HS1_1
  rw [canon_a]; split
  · rename_i hu; obtain rfl : u = 7 := Fin.ext hu; apply aB_7
  rename_i hn7
  rw [canon_a]; split
  · rename_i hu; obtain rfl : u = 6 := Fin.ext hu; apply aB_6
  rename_i hn6
  rw [canon_a]; split
  · rename_i hu; obtain rfl : u = 5 := Fin.ext hu; apply aB_5
  rename_i hn5
  rw [canon_a]; split
  · rename_i hu; obtain rfl : u = 4 := Fin.ext hu; apply aB_4
  rename_i hn4
  rw [canon_a]; split
  · rename_i hu; obtain rfl : u = 3 := Fin.ext hu; apply aB_3
  rename_i hn3
  rw [canon_a]; split
  · rename_i hu; obtain rfl : u = 2 := Fin.ext hu; apply aB_2
  rename_i hn2
  rw [canon_a]; split
  · rename_i hu; obtain rfl : u = 1 := Fin.ext hu; apply aB_1
  rename_i hn1
  rw [canon_a]; split
  · rename_i hu; obtain rfl : u = 0 := Fin.ext hu; apply aB_0
  rename_i hn0
  have := u.isLt
  omega

end Cert.KernelIdeal.Attn

end
-- ==== Proof.InvB.lean ====
/- The sums a point leaves in the scratch. -/
module

public import proofs.«01_k».proof.Proof.Scores
public import proofs.«01_k».proof.Proof.ValB

@[expose] public section

set_option maxRecDepth 16384
set_option Elab.async false

noncomputable section

namespace Cert.KernelIdeal.Attn

open Cert.KernelIdeal Cert.KernelIdeal.Gen
open Idealize.ShloMosaic
open Idealize.ShloMosaic.TcCoe

variable {A : (w : Fin 6) → (c : Dev nD) → Buf (Elt Ideal) ((spec0 w).arr.view.loc (c : Thread nD τ))}
variable {Q K V : Fin 512 → ℕ → ℝ} {c : Dev nD} (H : Holds A Q K V c) (t : Fin grid0.N)
include H

/-- What the first point of a row block leaves. -/
theorem invB (q0 : P0 t) (q1 : P1 t) :
    ∀ (u : Fin 8) (q : Fin 512),
    Sums (((atB A c t q0 q1).1) (ix2 u q)) (fun r => ((atB A c t q0 q1).2.1) (ix3 u r q)) (part Q K V u (512 * (iW t).toNat + q.val) ((jW t).toNat + 1)) := by
  intro u q
  have hm := mB_all c (crd t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) TI TJ (iblk (F := Ideal) A c 0 t) (iblk (F := Ideal) A c 1 t) (iblk (F := Ideal) A c 2 t) (iblk (F := Ideal) A c 3 t) (iblk (F := Ideal) A c 4 t) (hypsB (F := Ideal) t q0 q1).1 (hypsB (F := Ideal) t q0 q1).2.1 (hypsB (F := Ideal) t q0 q1).2.2.1 (hypsB (F := Ideal) t q0 q1).2.2.2 u q
  have ha := fun r : Fin 144 => aB_all c (crd t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) TI TJ (iblk (F := Ideal) A c 0 t) (iblk (F := Ideal) A c 1 t) (iblk (F := Ideal) A c 2 t) (iblk (F := Ideal) A c 3 t) (iblk (F := Ideal) A c 4 t) (hypsB (F := Ideal) t q0 q1).1 (hypsB (F := Ideal) t q0 q1).2.1 (hypsB (F := Ideal) t q0 q1).2.2.1 (hypsB (F := Ideal) t q0 q1).2.2.2 u r q
  have h := sums_start u (sc u (iblk (F := Ideal) A c 0 t) (iblk (F := Ideal) A c 1 t)) (iblk (F := Ideal) A c 2 t) sN q sN_val
    (fun r k => vr V u r (512 * (jW t).toNat + k.val)) (fun r k => vv_val H t u r k) (fun k => sc_top H t u q k) ⟨0, by rw [sc_val H t]; exact EReal.coe_ne_bot _⟩
  rw [gain_sc H t q1 u q, ← funext ha, ← hm] at h
  have e : part Q K V u (512 * (iW t).toNat + q.val) ((jW t).toNat + 1) = _ := funext fun r => part_succ Q K V u _ (jW t).toNat r
  rw [e]
  have z : ∀ r, part Q K V u (512 * (iW t).toNat + q.val) (jW t).toNat r = 0 := fun r => by rw [j_of_P0 t q0, part_zero]
  simp only [z, zero_add]
  exact h

end Cert.KernelIdeal.Attn

end
-- ==== Proof.ValC0.lean ====
/- The maxima and accumulators of head maps 0 and 1 at the last point of a row block, masked. -/
module

public import proofs.«01_k».proof.Proof.Core
public import proofs.«01_k».proof.Proof.RunC

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

theorem mC_1 (q : Fin 512) : (k0_pay131 (F := Ideal) (runC.sl.r_9 (F := Ideal) i arg3 arg4 T0 T1 x0 x1 a0)) (ix2 0 q) = mNew (scD (tw T0 i) (tw T1 i) 1 x0 x1) (a0 (ix2 1 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

theorem mC_0 (q : Fin 512) : (k0_pay118 (F := Ideal) (runC.sl.r_5 (F := Ideal) i arg3 arg4 T0 T1 x0 x1 a0)) (ix2 0 q) = mNew (scD (tw T0 i) (tw T1 i) 0 x0 x1) (a0 (ix2 0 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

theorem aC_1 (r : Fin 144) (q : Fin 512) : (k0_pay132 (F := Ideal) (runC.sl.r_27 (F := Ideal) i arg3 arg4 arg5 T0 T1 x0 x1 x2 a0 a1)) (ix3 0 r q) = accNew 1 (scD (tw T0 i) (tw T1 i) 1 x0 x1) x2 (a0 (ix2 1 q)) (a1 (ix3 1 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

theorem aC_0 (r : Fin 144) (q : Fin 512) : (k0_pay119 (F := Ideal) (runC.sl.r_21 (F := Ideal) i arg3 arg4 arg5 T0 T1 x0 x1 x2 a0 a1)) (ix3 0 r q) = accNew 0 (scD (tw T0 i) (tw T1 i) 0 x0 x1) x2 (a0 (ix2 0 q)) (a1 (ix3 0 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

end Cert.KernelIdeal.Attn

end
-- ==== Proof.ValC2.lean ====
/- The maxima and accumulators of head maps 2 and 3 at the last point of a row block, masked. -/
module

public import proofs.«01_k».proof.Proof.Core
public import proofs.«01_k».proof.Proof.RunC

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

theorem mC_3 (q : Fin 512) : (k0_pay157 (F := Ideal) (runC.sl.r_23 (F := Ideal) i arg3 arg4 T0 T1 x0 x1 a0)) (ix2 0 q) = mNew (scD (tw T0 i) (tw T1 i) 3 x0 x1) (a0 (ix2 3 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

theorem mC_2 (q : Fin 512) : (k0_pay146 (F := Ideal) (runC.sl.r_13 (F := Ideal) i arg3 arg4 T0 T1 x0 x1 a0)) (ix2 0 q) = mNew (scD (tw T0 i) (tw T1 i) 2 x0 x1) (a0 (ix2 2 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

theorem aC_3 (r : Fin 144) (q : Fin 512) : (k0_pay158 (F := Ideal) (runC.sl.r_44 (F := Ideal) i arg3 arg4 arg5 T0 T1 x0 x1 x2 a0 a1)) (ix3 0 r q) = accNew 3 (scD (tw T0 i) (tw T1 i) 3 x0 x1) x2 (a0 (ix2 3 q)) (a1 (ix3 3 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

theorem aC_2 (r : Fin 144) (q : Fin 512) : (k0_pay147 (F := Ideal) (runC.sl.r_34 (F := Ideal) i arg3 arg4 arg5 T0 T1 x0 x1 x2 a0 a1) (runC.sl.r_37 (F := Ideal) i arg3 arg4 T0 T1 x0 x1 a0) (runC.sl.r_38 (F := Ideal) arg5 x2)) (ix3 0 r q) = accNew 2 (scD (tw T0 i) (tw T1 i) 2 x0 x1) x2 (a0 (ix2 2 q)) (a1 (ix3 2 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

end Cert.KernelIdeal.Attn

end
-- ==== Proof.ValC4.lean ====
/- The maxima and accumulators of head maps 4 and 5 at the last point of a row block, masked. -/
module

public import proofs.«01_k».proof.Proof.Core
public import proofs.«01_k».proof.Proof.RunC

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

theorem mC_5 (q : Fin 512) : (runC.sl.v668 (F := Ideal) i arg3 arg4 T0 T1 x0 x1 a0) (ix2 0 q) = mNew (scD (tw T0 i) (tw T1 i) 5 x0 x1) (a0 (ix2 5 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

theorem mC_4 (q : Fin 512) : (k0_pay172 (F := Ideal) (runC.sl.r_30 (F := Ideal) i arg3 arg4 T0 T1 x0 x1 a0)) (ix2 0 q) = mNew (scD (tw T0 i) (tw T1 i) 4 x0 x1) (a0 (ix2 4 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

theorem aC_5 (r : Fin 144) (q : Fin 512) : (runC.sl.v671 (F := Ideal) i arg3 arg4 arg5 T0 T1 x0 x1 x2 a0 a1) (ix3 0 r q) = accNew 5 (scD (tw T0 i) (tw T1 i) 5 x0 x1) x2 (a0 (ix2 5 q)) (a1 (ix3 5 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

theorem aC_4 (r : Fin 144) (q : Fin 512) : (k0_pay173 (F := Ideal) (runC.sl.r_50 (F := Ideal) i arg3 arg4 arg5 T0 T1 x0 x1 x2 a0 a1)) (ix3 0 r q) = accNew 4 (scD (tw T0 i) (tw T1 i) 4 x0 x1) x2 (a0 (ix2 4 q)) (a1 (ix3 4 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

end Cert.KernelIdeal.Attn

end
-- ==== Proof.ValC6.lean ====
/- The maxima and accumulators of head maps 6 and 7 at the last point of a row block, masked. -/
module

public import proofs.«01_k».proof.Proof.Core
public import proofs.«01_k».proof.Proof.RunC

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

theorem mC_7 (q : Fin 512) : (k0_pay195 (F := Ideal) (runC.sl.r_54 (F := Ideal) i arg3 arg4 T0 T1 x0 x1 a0)) (ix2 0 q) = mNew (scD (tw T0 i) (tw T1 i) 7 x0 x1) (a0 (ix2 7 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

theorem mC_6 (q : Fin 512) : (runC.sl.v703 (F := Ideal) i arg3 arg4 T0 T1 x0 x1 a0) (ix2 0 q) = mNew (scD (tw T0 i) (tw T1 i) 6 x0 x1) (a0 (ix2 6 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

theorem aC_7 (r : Fin 144) (q : Fin 512) : (k0_pay196 (F := Ideal) (runC.sl.v724 (F := Ideal) i arg3 arg4 arg5 T0 T1 x0 x1 x2 a0 a1) (runC.sl.v728 (F := Ideal) i arg3 arg4 T0 T1 x0 x1 a0) (View.readAt (Elt Ideal) arg5.view (Rect.unit (s := S512x512) ![384, 256] S128x256.size inb_S512x512_S128x256_384_256).toLoadRect (arg5.view.rep x2))) (ix3 0 r q) = accNew 7 (scD (tw T0 i) (tw T1 i) 7 x0 x1) x2 (a0 (ix2 7 q)) (a1 (ix3 7 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

theorem aC_6 (r : Fin 144) (q : Fin 512) : (runC.sl.v706 (F := Ideal) i arg3 arg4 arg5 T0 T1 x0 x1 x2 a0 a1) (ix3 0 r q) = accNew 6 (scD (tw T0 i) (tw T1 i) 6 x0 x1) x2 (a0 (ix2 6 q)) (a1 (ix3 6 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  simp only [mNew, accNew, scD_lo, scD_hi]
  rfl

end Cert.KernelIdeal.Attn

end
-- ==== Proof.ValCo.lean ====
/- The result written at the last point of a row block, masked, out of its accumulators. -/
module

public import proofs.«01_k».proof.Proof.Core
public import proofs.«01_k».proof.Proof.RunC

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

/-- The weight of the second map. -/
theorem lamC : (runC.sl.v70 (F := Ideal) arg6 x3) (ix2 0 0) = lamE x3 := by
  delta runC.sl.v70 runC.sl.v68 runC.sl.v69 runC.sl.v66 runC.sl.v67 runC.sl.cst_22 runC.sl.v60 runC.sl.v65 runC.sl.v59 runC.sl.v64 runC.sl.v58 runC.sl.v63 runC.sl.v56 runC.sl.v57 runC.sl.v61 runC.sl.v62 runC.sl.v55
  beta_reduce
  simp only [View.readAt_rep, View.readAt_eq_ld, View.read_whole, View.read_rep]
  pointwise
  simp only [lamE]

theorem rC_3_0 (r : Fin 144) (q : Fin 512) : (runC.sl.v170 (F := Ideal) i arg3 arg4 arg5 T0 T1 x0 x1 x2 a0 a1) (ix3 0 r q) = View.canon (runC.sl.HS1_8 (F := Ideal) i arg3 arg4 arg5 T0 T1 x0 x1 x2 a0 a1) (ix3 6 r q) := by
  delta runC.sl.v170
  beta_reduce
  generalize runC.sl.HS1_8 (F := Ideal) i arg3 arg4 arg5 T0 T1 x0 x1 x2 a0 a1 = L
  rw [View.readCov_eq_canon']
  generalize View.canon L = A
  pointwise

theorem rC_3_1 (r : Fin 144) (q : Fin 512) : (runC.sl.v172 (F := Ideal) i arg3 arg4 arg5 T0 T1 x0 x1 x2 a0 a1) (ix3 0 r q) = View.canon (runC.sl.HS1_8 (F := Ideal) i arg3 arg4 arg5 T0 T1 x0 x1 x2 a0 a1) (ix3 7 r q) := by
  delta runC.sl.v172
  beta_reduce
  generalize runC.sl.HS1_8 (F := Ideal) i arg3 arg4 arg5 T0 T1 x0 x1 x2 a0 a1 = L
  rw [View.readCov_eq_canon']
  generalize View.canon L = A
  pointwise

theorem oC_3 (r : Fin 128) (q : Fin 512) : (k0_pay1 (F := Ideal) (runC.sl.v70 (F := Ideal) arg6 x3) (runC.sl.v173 (F := Ideal) i arg3 arg4 arg5 T0 T1 x0 x1 x2 a0 a1) (runC.sl.v177 (F := Ideal) i arg3 arg4 arg5 T0 T1 x0 x1 x2 a0 a1) (View.readAt (Elt Ideal) arg7.view (Rect.unit (s := S128x1) ![0, 0] S128x1.size inb_S128x1_S128x1_0_0).toLoadRect (arg7.view.rep x4))) (ix2 r q) = outF (fun r => View.canon (runC.sl.HS1_8 (F := Ideal) i arg3 arg4 arg5 T0 T1 x0 x1 x2 a0 a1) (ix3 6 r q)) (fun r => View.canon (runC.sl.HS1_8 (F := Ideal) i arg3 arg4 arg5 T0 T1 x0 x1 x2 a0 a1) (ix3 7 r q)) x3 x4 r := by
  simp only [outF, nrm, cmb, ← rC_3_0, ← rC_3_1, ← lamC arg6 x3]
  delta runC.sl.v173 runC.sl.v177 runC.sl.v174 runC.sl.v176 runC.sl.v171 runC.sl.v175
  beta_reduce
  generalize runC.sl.v170 (F := Ideal) i arg3 arg4 arg5 T0 T1 x0 x1 x2 a0 a1 = A
  generalize runC.sl.v172 (F := Ideal) i arg3 arg4 arg5 T0 T1 x0 x1 x2 a0 a1 = B
  generalize runC.sl.v70 (F := Ideal) arg6 x3 = l
  simp only [View.readAt_rep, View.readAt_eq_ld, View.read_whole, View.read_rep]
  unfold_payloads
  pointwise

theorem rC_2_0 (r : Fin 144) (q : Fin 512) : (runC.sl.v137 (F := Ideal) i arg3 arg4 arg5 T0 T1 x0 x1 x2 a0 a1) (ix3 0 r q) = View.canon (runC.sl.HS1_8 (F := Ideal) i arg3 arg4 arg5 T0 T1 x0 x1 x2 a0 a1) (ix3 4 r q) := by
  delta runC.sl.v137
  beta_reduce
  generalize runC.sl.HS1_8 (F := Ideal) i arg3 arg4 arg5 T0 T1 x0 x1 x2 a0 a1 = L
  rw [View.readCov_eq_canon']
  generalize View.canon L = A
  pointwise

theorem rC_2_1 (r : Fin 144) (q : Fin 512) : (runC.sl.v139 (F := Ideal) i arg3 arg4 arg5 T0 T1 x0 x1 x2 a0 a1) (ix3 0 r q) = View.canon (runC.sl.HS1_8 (F := Ideal) i arg3 arg4 arg5 T0 T1 x0 x1 x2 a0 a1) (ix3 5 r q) := by
  delta runC.sl.v139
  beta_reduce
  generalize runC.sl.HS1_8 (F := Ideal) i arg3 arg4 arg5 T0 T1 x0 x1 x2 a0 a1 = L
  rw [View.readCov_eq_canon']
  generalize View.canon L = A
  pointwise

theorem wC_2 (r : Fin 128) (q : Fin 512) : (runC.sl.v151 (F := Ideal) i arg3 arg4 arg5 arg6 T0 T1 x0 x1 x2 x3 a0 a1) (ix2 r q) = cmb (fun r => View.canon (runC.sl.HS1_8 (F := Ideal) i arg3 arg4 arg5 T0 T1 x0 x1 x2 a0 a1) (ix3 4 r q)) (fun r => View.canon (runC.sl.HS1_8 (F := Ideal) i arg3 arg4 arg5 T0 T1 x0 x1 x2 a0 a1) (ix3 5 r q)) (lamE x3) r := by
  simp only [cmb, ← rC_2_0, ← rC_2_1, ← lamC arg6 x3]
  delta runC.sl.v151 runC.sl.v144 runC.sl.v150 runC.sl.v141 runC.sl.v143 runC.sl.v83 runC.sl.v148 runC.sl.v138 runC.sl.v142 runC.sl.v145 runC.sl.v147 runC.sl.v140 runC.sl.v146
  beta_reduce
  generalize runC.sl.v137 (F := Ideal) i arg3 arg4 arg5 T0 T1 x0 x1 x2 a0 a1 = A
  generalize runC.sl.v139 (F := Ideal) i arg3 arg4 arg5 T0 T1 x0 x1 x2 a0 a1 = B
  generalize runC.sl.v70 (F := Ideal) arg6 x3 = l
  pointwise

theorem oC_2 (r : Fin 128) (q : Fin 512) : (runC.sl.v168 (F := Ideal) i arg3 arg4 arg5 arg6 arg7 T0 T1 x0 x1 x2 x3 x4 a0 a1) (ix2 r q) = outF (fun r => View.canon (runC.sl.HS1_8 (F := Ideal) i arg3 arg4 arg5 T0 T1 x0 x1 x2 a0 a1) (ix3 4 r q)) (fun r => View.canon (runC.sl.HS1_8 (F := Ideal) i arg3 arg4 arg5 T0 T1 x0 x1 x2 a0 a1) (ix3 5 r q)) x3 x4 r := by
  have e : (fun r => (runC.sl.v151 (F := Ideal) i arg3 arg4 arg5 arg6 T0 T1 x0 x1 x2 x3 a0 a1) (ix2 r q)) = cmb (fun r => View.canon (runC.sl.HS1_8 (F := Ideal) i arg3 arg4 arg5 T0 T1 x0 x1 x2 a0 a1) (ix3 4 r q)) (fun r => View.canon (runC.sl.HS1_8 (F := Ideal) i arg3 arg4 arg5 T0 T1 x0 x1 x2 a0 a1) (ix3 5 r q)) (lamE x3) := funext fun r => by rw [wC_2]
  unfold outF
  rw [← e]
  delta runC.sl.v168 runC.sl.v167 runC.sl.v165 runC.sl.v100 runC.sl.v161 runC.sl.v98 runC.sl.cst_33 runC.sl.v160 runC.sl.v97 runC.sl.v159 runC.sl.v158 runC.sl.v156 runC.sl.v91 runC.sl.v154 runC.sl.v89 runC.sl.cst_30 runC.sl.v153 runC.sl.cst_29 runC.sl.v152
  beta_reduce
  generalize runC.sl.v151 (F := Ideal) i arg3 arg4 arg5 arg6 T0 T1 x0 x1 x2 x3 a0 a1 = W
  simp only [View.readAt_rep, View.readAt_eq_ld, View.read_whole, View.read_rep]
  pointwise
  simp only [nrm]

theorem rC_1_0 (r : Fin 144) (q : Fin 512) : (runC.sl.v104 (F := Ideal) i arg3 arg4 arg5 T0 T1 x0 x1 x2 a0 a1) (ix3 0 r q) = View.canon (runC.sl.HS1_8 (F := Ideal) i arg3 arg4 arg5 T0 T1 x0 x1 x2 a0 a1) (ix3 2 r q) := by
  delta runC.sl.v104
  beta_reduce
  generalize runC.sl.HS1_8 (F := Ideal) i arg3 arg4 arg5 T0 T1 x0 x1 x2 a0 a1 = L
  rw [View.readCov_eq_canon']
  generalize View.canon L = A
  pointwise

theorem rC_1_1 (r : Fin 144) (q : Fin 512) : (runC.sl.v106 (F := Ideal) i arg3 arg4 arg5 T0 T1 x0 x1 x2 a0 a1) (ix3 0 r q) = View.canon (runC.sl.HS1_8 (F := Ideal) i arg3 arg4 arg5 T0 T1 x0 x1 x2 a0 a1) (ix3 3 r q) := by
  delta runC.sl.v106
  beta_reduce
  generalize runC.sl.HS1_8 (F := Ideal) i arg3 arg4 arg5 T0 T1 x0 x1 x2 a0 a1 = L
  rw [View.readCov_eq_canon']
  generalize View.canon L = A
  pointwise

theorem wC_1 (r : Fin 128) (q : Fin 512) : (runC.sl.v118 (F := Ideal) i arg3 arg4 arg5 arg6 T0 T1 x0 x1 x2 x3 a0 a1) (ix2 r q) = cmb (fun r => View.canon (runC.sl.HS1_8 (F := Ideal) i arg3 arg4 arg5 T0 T1 x0 x1 x2 a0 a1) (ix3 2 r q)) (fun r => View.canon (runC.sl.HS1_8 (F := Ideal) i arg3 arg4 arg5 T0 T1 x0 x1 x2 a0 a1) (ix3 3 r q)) (lamE x3) r := by
  simp only [cmb, ← rC_1_0, ← rC_1_1, ← lamC arg6 x3]
  delta runC.sl.v118 runC.sl.v111 runC.sl.v117 runC.sl.v108 runC.sl.v110 runC.sl.v83 runC.sl.v115 runC.sl.v105 runC.sl.v109 runC.sl.v112 runC.sl.v114 runC.sl.v107 runC.sl.v113
  beta_reduce
  generalize runC.sl.v104 (F := Ideal) i arg3 arg4 arg5 T0 T1 x0 x1 x2 a0 a1 = A
  generalize runC.sl.v106 (F := Ideal) i arg3 arg4 arg5 T0 T1 x0 x1 x2 a0 a1 = B
  generalize runC.sl.v70 (F := Ideal) arg6 x3 = l
  pointwise

theorem oC_1 (r : Fin 128) (q : Fin 512) : (runC.sl.v135 (F := Ideal) i arg3 arg4 arg5 arg6 arg7 T0 T1 x0 x1 x2 x3 x4 a0 a1) (ix2 r q) = outF (fun r => View.canon (runC.sl.HS1_8 (F := Ideal) i arg3 arg4 arg5 T0 T1 x0 x1 x2 a0 a1) (ix3 2 r q)) (fun r => View.canon (runC.sl.HS1_8 (F := Ideal) i arg3 arg4 arg5 T0 T1 x0 x1 x2 a0 a1) (ix3 3 r q)) x3 x4 r := by
  have e : (fun r => (runC.sl.v118 (F := Ideal) i arg3 arg4 arg5 arg6 T0 T1 x0 x1 x2 x3 a0 a1) (ix2 r q)) = cmb (fun r => View.canon (runC.sl.HS1_8 (F := Ideal) i arg3 arg4 arg5 T0 T1 x0 x1 x2 a0 a1) (ix3 2 r q)) (fun r => View.canon (runC.sl.HS1_8 (F := Ideal) i arg3 arg4 arg5 T0 T1 x0 x1 x2 a0 a1) (ix3 3 r q)) (lamE x3) := funext fun r => by rw [wC_1]
  unfold outF
  rw [← e]
  delta runC.sl.v135 runC.sl.v134 runC.sl.v132 runC.sl.v100 runC.sl.v128 runC.sl.v98 runC.sl.cst_33 runC.sl.v127 runC.sl.v97 runC.sl.v126 runC.sl.v125 runC.sl.v123 runC.sl.v91 runC.sl.v121 runC.sl.v89 runC.sl.cst_30 runC.sl.v120 runC.sl.cst_29 runC.sl.v119
  beta_reduce
  generalize runC.sl.v118 (F := Ideal) i arg3 arg4 arg5 arg6 T0 T1 x0 x1 x2 x3 a0 a1 = W
  simp only [View.readAt_rep, View.readAt_eq_ld, View.read_whole, View.read_rep]
  pointwise
  simp only [nrm]

theorem rC_0_0 (r : Fin 144) (q : Fin 512) : (runC.sl.v71 (F := Ideal) i arg3 arg4 arg5 T0 T1 x0 x1 x2 a0 a1) (ix3 0 r q) = View.canon (runC.sl.HS1_8 (F := Ideal) i arg3 arg4 arg5 T0 T1 x0 x1 x2 a0 a1) (ix3 0 r q) := by
  delta runC.sl.v71
  beta_reduce
  generalize runC.sl.HS1_8 (F := Ideal) i arg3 arg4 arg5 T0 T1 x0 x1 x2 a0 a1 = L
  rw [View.readCov_eq_canon']
  generalize View.canon L = A
  pointwise

theorem rC_0_1 (r : Fin 144) (q : Fin 512) : (runC.sl.v73 (F := Ideal) i arg3 arg4 arg5 T0 T1 x0 x1 x2 a0 a1) (ix3 0 r q) = View.canon (runC.sl.HS1_8 (F := Ideal) i arg3 arg4 arg5 T0 T1 x0 x1 x2 a0 a1) (ix3 1 r q) := by
  delta runC.sl.v73
  beta_reduce
  generalize runC.sl.HS1_8 (F := Ideal) i arg3 arg4 arg5 T0 T1 x0 x1 x2 a0 a1 = L
  rw [View.readCov_eq_canon']
  generalize View.canon L = A
  pointwise

theorem wC_0 (r : Fin 128) (q : Fin 512) : (runC.sl.v85 (F := Ideal) i arg3 arg4 arg5 arg6 T0 T1 x0 x1 x2 x3 a0 a1) (ix2 r q) = cmb (fun r => View.canon (runC.sl.HS1_8 (F := Ideal) i arg3 arg4 arg5 T0 T1 x0 x1 x2 a0 a1) (ix3 0 r q)) (fun r => View.canon (runC.sl.HS1_8 (F := Ideal) i arg3 arg4 arg5 T0 T1 x0 x1 x2 a0 a1) (ix3 1 r q)) (lamE x3) r := by
  simp only [cmb, ← rC_0_0, ← rC_0_1, ← lamC arg6 x3]
  delta runC.sl.v85 runC.sl.v78 runC.sl.v84 runC.sl.v75 runC.sl.v77 runC.sl.v83 runC.sl.v82 runC.sl.v72 runC.sl.v76 runC.sl.v79 runC.sl.v81 runC.sl.v74 runC.sl.v80
  beta_reduce
  generalize runC.sl.v71 (F := Ideal) i arg3 arg4 arg5 T0 T1 x0 x1 x2 a0 a1 = A
  generalize runC.sl.v73 (F := Ideal) i arg3 arg4 arg5 T0 T1 x0 x1 x2 a0 a1 = B
  generalize runC.sl.v70 (F := Ideal) arg6 x3 = l
  pointwise

theorem oC_0 (r : Fin 128) (q : Fin 512) : (runC.sl.v102 (F := Ideal) i arg3 arg4 arg5 arg6 arg7 T0 T1 x0 x1 x2 x3 x4 a0 a1) (ix2 r q) = outF (fun r => View.canon (runC.sl.HS1_8 (F := Ideal) i arg3 arg4 arg5 T0 T1 x0 x1 x2 a0 a1) (ix3 0 r q)) (fun r => View.canon (runC.sl.HS1_8 (F := Ideal) i arg3 arg4 arg5 T0 T1 x0 x1 x2 a0 a1) (ix3 1 r q)) x3 x4 r := by
  have e : (fun r => (runC.sl.v85 (F := Ideal) i arg3 arg4 arg5 arg6 T0 T1 x0 x1 x2 x3 a0 a1) (ix2 r q)) = cmb (fun r => View.canon (runC.sl.HS1_8 (F := Ideal) i arg3 arg4 arg5 T0 T1 x0 x1 x2 a0 a1) (ix3 0 r q)) (fun r => View.canon (runC.sl.HS1_8 (F := Ideal) i arg3 arg4 arg5 T0 T1 x0 x1 x2 a0 a1) (ix3 1 r q)) (lamE x3) := funext fun r => by rw [wC_0]
  unfold outF
  rw [← e]
  delta runC.sl.v102 runC.sl.v101 runC.sl.v99 runC.sl.v100 runC.sl.v95 runC.sl.v98 runC.sl.cst_33 runC.sl.v94 runC.sl.v97 runC.sl.v93 runC.sl.v92 runC.sl.v90 runC.sl.v91 runC.sl.v88 runC.sl.v89 runC.sl.cst_30 runC.sl.v87 runC.sl.cst_29 runC.sl.v86
  beta_reduce
  generalize runC.sl.v85 (F := Ideal) i arg3 arg4 arg5 arg6 T0 T1 x0 x1 x2 x3 a0 a1 = W
  simp only [View.readAt_rep, View.readAt_eq_ld, View.read_whole, View.read_rep]
  pointwise
  simp only [nrm]

end Cert.KernelIdeal.Attn

end
-- ==== Proof.ValC.lean ====
/- What the last point of a row block, masked leaves. -/
module

public import proofs.«01_k».proof.Proof.ValC0
public import proofs.«01_k».proof.Proof.ValC2
public import proofs.«01_k».proof.Proof.ValC4
public import proofs.«01_k».proof.Proof.ValC6
public import proofs.«01_k».proof.Proof.ValCo

@[expose] public section

set_option maxRecDepth 16384
set_option Elab.async false

noncomputable section

namespace Cert.KernelIdeal.Attn

open Cert.KernelIdeal Cert.KernelIdeal.Gen
open Idealize.ShloMosaic
open Idealize.ShloMosaic.TcCoe

variable (c : Dev nD) (i : grid0.Coords)
  (arg3 : Memref sig .tc .vmem S512x512 .bf16) (harg3 : arg3.IsWhole) (arg4 : Memref sig .tc .vmem S512x512 .bf16) (harg4 : arg4.IsWhole)
  (arg5 : Memref sig .tc .vmem S512x512 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S512x512 .bf16) (harg8 : arg8.IsWhole)
  (T0 T1 : S528.Idx → Elt Ideal .i32) (x0 x1 x2 : S512x512.Idx → Elt Ideal .bf16) (x3 : S4x64.Idx → Elt Ideal .f32) (x4 : S128x1.Idx → Elt Ideal .f32)
  (a0 : S8x512.Idx → Elt Ideal .f32) (a1 : S8x144x512.Idx → Elt Ideal .f32)
  (h0 : ¬(isFirst (wJ (F := Ideal) T1 i) = 1#1)) (h1 : ¬(isBelow (wI (F := Ideal) T0 i) (wJ (F := Ideal) T1 i) = 1#1)) (h2 : (isDiag (wI (F := Ideal) T0 i) (wJ (F := Ideal) T1 i) = 1#1)) (h4 : (k0_cond4 (wI (F := Ideal) T0 i) (wJ (F := Ideal) T1 i) = 1#1))

theorem mC_all (u : Fin 8) (q : Fin 512) : (runC (F := Ideal) c i arg3 harg3 arg4 harg4 arg5 harg5 arg6 harg6 arg7 harg7 arg8 harg8 T0 T1 x0 x1 x2 x3 x4 a0 a1 h0 h1 h2 h4).2.1 (ix2 u q) = mNew (scD (tw T0 i) (tw T1 i) u x0 x1) (a0 (ix2 u q)) q := by
  have e : (runC (F := Ideal) c i arg3 harg3 arg4 harg4 arg5 harg5 arg6 harg6 arg7 harg7 arg8 harg8 T0 T1 x0 x1 x2 x3 x4 a0 a1 h0 h1 h2 h4).2.1 = View.canon (runC.sl.HS0_8 (F := Ideal) i arg3 arg4 T0 T1 x0 x1 a0) := (show (runC (F := Ideal) c i arg3 harg3 arg4 harg4 arg5 harg5 arg6 harg6 arg7 harg7 arg8 harg8 T0 T1 x0 x1 x2 x3 x4 a0 a1 h0 h1 h2 h4).2.1 = sM.view.read (Elt Ideal) (sM.view.writes (Elt Ideal) sM.view.junk (runC.sl.HS0_8 (F := Ideal) i arg3 arg4 T0 T1 x0 x1 a0)) from by delta runC; dsimp only; generalize (View.whole cc0_scratch0).writes (Elt Ideal) _ _ = f; rfl).trans (View.read_writes_junk_eq_canon sM.view _)
  rw [e]
  delta runC.sl.HS0_8
  rw [canon_m]; split
  · rename_i hu; obtain rfl : u = 7 := Fin.ext hu; apply mC_7
  rename_i hn7
  rw [canon_m]; split
  · rename_i hu; obtain rfl : u = 6 := Fin.ext hu; apply mC_6
  rename_i hn6
  rw [canon_m]; split
  · rename_i hu; obtain rfl : u = 5 := Fin.ext hu; apply mC_5
  rename_i hn5
  rw [canon_m]; split
  · rename_i hu; obtain rfl : u = 4 := Fin.ext hu; apply mC_4
  rename_i hn4
  rw [canon_m]; split
  · rename_i hu; obtain rfl : u = 3 := Fin.ext hu; apply mC_3
  rename_i hn3
  rw [canon_m]; split
  · rename_i hu; obtain rfl : u = 2 := Fin.ext hu; apply mC_2
  rename_i hn2
  rw [canon_m]; split
  · rename_i hu; obtain rfl : u = 1 := Fin.ext hu; apply mC_1
  rename_i hn1
  rw [canon_m]; split
  · rename_i hu; obtain rfl : u = 0 := Fin.ext hu; apply mC_0
  rename_i hn0
  have := u.isLt
  omega

theorem aC_all (u : Fin 8) (r : Fin 144) (q : Fin 512) : (runC (F := Ideal) c i arg3 harg3 arg4 harg4 arg5 harg5 arg6 harg6 arg7 harg7 arg8 harg8 T0 T1 x0 x1 x2 x3 x4 a0 a1 h0 h1 h2 h4).2.2.1 (ix3 u r q) = accNew u (scD (tw T0 i) (tw T1 i) u x0 x1) x2 (a0 (ix2 u q)) (a1 (ix3 u r q)) r q := by
  have e : (runC (F := Ideal) c i arg3 harg3 arg4 harg4 arg5 harg5 arg6 harg6 arg7 harg7 arg8 harg8 T0 T1 x0 x1 x2 x3 x4 a0 a1 h0 h1 h2 h4).2.2.1 = View.canon (runC.sl.HS1_8 (F := Ideal) i arg3 arg4 arg5 T0 T1 x0 x1 x2 a0 a1) := (show (runC (F := Ideal) c i arg3 harg3 arg4 harg4 arg5 harg5 arg6 harg6 arg7 harg7 arg8 harg8 T0 T1 x0 x1 x2 x3 x4 a0 a1 h0 h1 h2 h4).2.2.1 = sA.view.read (Elt Ideal) (sA.view.writes (Elt Ideal) sA.view.junk (runC.sl.HS1_8 (F := Ideal) i arg3 arg4 arg5 T0 T1 x0 x1 x2 a0 a1)) from by delta runC; dsimp only; generalize (View.whole cc0_scratch1).writes (Elt Ideal) _ _ = f; rfl).trans (View.read_writes_junk_eq_canon sA.view _)
  rw [e]
  delta runC.sl.HS1_8
  rw [canon_a]; split
  · rename_i hu; obtain rfl : u = 7 := Fin.ext hu; apply aC_7
  rename_i hn7
  rw [canon_a]; split
  · rename_i hu; obtain rfl : u = 6 := Fin.ext hu; apply aC_6
  rename_i hn6
  rw [canon_a]; split
  · rename_i hu; obtain rfl : u = 5 := Fin.ext hu; apply aC_5
  rename_i hn5
  rw [canon_a]; split
  · rename_i hu; obtain rfl : u = 4 := Fin.ext hu; apply aC_4
  rename_i hn4
  rw [canon_a]; split
  · rename_i hu; obtain rfl : u = 3 := Fin.ext hu; apply aC_3
  rename_i hn3
  rw [canon_a]; split
  · rename_i hu; obtain rfl : u = 2 := Fin.ext hu; apply aC_2
  rename_i hn2
  rw [canon_a]; split
  · rename_i hu; obtain rfl : u = 1 := Fin.ext hu; apply aC_1
  rename_i hn1
  rw [canon_a]; split
  · rename_i hu; obtain rfl : u = 0 := Fin.ext hu; apply aC_0
  rename_i hn0
  have := u.isLt
  omega

theorem oC_all (h : Fin 4) (r : Fin 128) (q : Fin 512) : View.canon (runC (F := Ideal) c i arg3 harg3 arg4 harg4 arg5 harg5 arg6 harg6 arg7 harg7 arg8 harg8 T0 T1 x0 x1 x2 x3 x4 a0 a1 h0 h1 h2 h4).1 (ix2 (row h r) q)
    = outF (fun r => (runC (F := Ideal) c i arg3 harg3 arg4 harg4 arg5 harg5 arg6 harg6 arg7 harg7 arg8 harg8 T0 T1 x0 x1 x2 x3 x4 a0 a1 h0 h1 h2 h4).2.2.1 (ix3 (ev h) r q)) (fun r => (runC (F := Ideal) c i arg3 harg3 arg4 harg4 arg5 harg5 arg6 harg6 arg7 harg7 arg8 harg8 T0 T1 x0 x1 x2 x3 x4 a0 a1 h0 h1 h2 h4).2.2.1 (ix3 (od h) r q)) x3 x4 r := by
  have e : (runC (F := Ideal) c i arg3 harg3 arg4 harg4 arg5 harg5 arg6 harg6 arg7 harg7 arg8 harg8 T0 T1 x0 x1 x2 x3 x4 a0 a1 h0 h1 h2 h4).2.2.1 = View.canon (runC.sl.HS1_8 (F := Ideal) i arg3 arg4 arg5 T0 T1 x0 x1 x2 a0 a1) := (show (runC (F := Ideal) c i arg3 harg3 arg4 harg4 arg5 harg5 arg6 harg6 arg7 harg7 arg8 harg8 T0 T1 x0 x1 x2 x3 x4 a0 a1 h0 h1 h2 h4).2.2.1 = sA.view.read (Elt Ideal) (sA.view.writes (Elt Ideal) sA.view.junk (runC.sl.HS1_8 (F := Ideal) i arg3 arg4 arg5 T0 T1 x0 x1 x2 a0 a1)) from by delta runC; dsimp only; generalize (View.whole cc0_scratch1).writes (Elt Ideal) _ _ = f; rfl).trans (View.read_writes_junk_eq_canon sA.view _)
  rw [e]
  have e5 : (runC (F := Ideal) c i arg3 harg3 arg4 harg4 arg5 harg5 arg6 harg6 arg7 harg7 arg8 harg8 T0 T1 x0 x1 x2 x3 x4 a0 a1 h0 h1 h2 h4).1 = runC.sl.HO5_4 (F := Ideal) i arg3 arg4 arg5 arg6 arg7 T0 T1 x0 x1 x2 x3 x4 a0 a1 := by delta runC; rfl
  rw [e5]; delta runC.sl.HO5_4
  match h with
  | ⟨0, _⟩ =>
    refine ((canon_o _ _ _ _ _).2 (by show 128 * 0 + 128 ≤ 384 ∨ 384 + 128 ≤ 128 * 0; omega)).trans ?_
    refine ((canon_o _ _ _ _ _).2 (by show 128 * 0 + 128 ≤ 256 ∨ 256 + 128 ≤ 128 * 0; omega)).trans ?_
    refine ((canon_o _ _ _ _ _).2 (by show 128 * 0 + 128 ≤ 128 ∨ 128 + 128 ≤ 128 * 0; omega)).trans ?_
    refine ((canon_o _ _ _ _ _).1 (by show 128 * 0 = 0; omega)).trans ?_
    apply oC_0
  | ⟨1, _⟩ =>
    refine ((canon_o _ _ _ _ _).2 (by show 128 * 1 + 128 ≤ 384 ∨ 384 + 128 ≤ 128 * 1; omega)).trans ?_
    refine ((canon_o _ _ _ _ _).2 (by show 128 * 1 + 128 ≤ 256 ∨ 256 + 128 ≤ 128 * 1; omega)).trans ?_
    refine ((canon_o _ _ _ _ _).1 (by show 128 * 1 = 128; omega)).trans ?_
    apply oC_1
  | ⟨2, _⟩ =>
    refine ((canon_o _ _ _ _ _).2 (by show 128 * 2 + 128 ≤ 384 ∨ 384 + 128 ≤ 128 * 2; omega)).trans ?_
    refine ((canon_o _ _ _ _ _).1 (by show 128 * 2 = 256; omega)).trans ?_
    apply oC_2
  | ⟨3, _⟩ =>
    refine ((canon_o _ _ _ _ _).1 (by show 128 * 3 = 384; omega)).trans ?_
    apply oC_3

end Cert.KernelIdeal.Attn

end
-- ==== Proof.InvC.lean ====
/- The sums a point leaves in the scratch. -/
module

public import proofs.«01_k».proof.Proof.Scores
public import proofs.«01_k».proof.Proof.ValC

@[expose] public section

set_option maxRecDepth 16384
set_option Elab.async false

noncomputable section

namespace Cert.KernelIdeal.Attn

open Cert.KernelIdeal Cert.KernelIdeal.Gen
open Idealize.ShloMosaic
open Idealize.ShloMosaic.TcCoe

variable {A : (w : Fin 6) → (c : Dev nD) → Buf (Elt Ideal) ((spec0 w).arr.view.loc (c : Thread nD τ))}
variable {Q K V : Fin 512 → ℕ → ℝ} {c : Dev nD} (H : Holds A Q K V c) (t : Fin grid0.N)
include H

/-- What the point leaves, from what it found. -/
theorem invC (p : St Ideal) (q0 : ¬P0 t) (q1 : ¬P1 t)
    (ih : ∀ (u : Fin 8) (q : Fin 512), Sums (p.1 (ix2 u q)) (fun r => p.2 (ix3 u r q)) (part Q K V u (512 * (iW t).toNat + q.val) (jW t).toNat)) :
    ∀ (u : Fin 8) (q : Fin 512),
    Sums (((atC A c t p q0 q1).2.1) (ix2 u q)) (fun r => ((atC A c t p q0 q1).2.2.1) (ix3 u r q)) (part Q K V u (512 * (iW t).toNat + q.val) ((jW t).toNat + 1)) := by
  intro u q
  have hm := mC_all c (crd t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) TI TJ (iblk (F := Ideal) A c 0 t) (iblk (F := Ideal) A c 1 t) (iblk (F := Ideal) A c 2 t) (iblk (F := Ideal) A c 3 t) (iblk (F := Ideal) A c 4 t) p.1 p.2 (hypsC (F := Ideal) t q0 q1).1 (hypsC (F := Ideal) t q0 q1).2.1 (hypsC (F := Ideal) t q0 q1).2.2.1 (hypsC (F := Ideal) t q0 q1).2.2.2 u q
  have ha := fun r : Fin 144 => aC_all c (crd t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) TI TJ (iblk (F := Ideal) A c 0 t) (iblk (F := Ideal) A c 1 t) (iblk (F := Ideal) A c 2 t) (iblk (F := Ideal) A c 3 t) (iblk (F := Ideal) A c 4 t) p.1 p.2 (hypsC (F := Ideal) t q0 q1).1 (hypsC (F := Ideal) t q0 q1).2.1 (hypsC (F := Ideal) t q0 q1).2.2.1 (hypsC (F := Ideal) t q0 q1).2.2.2 u r q
  have h : Sums (mNew (scD (tw TI (crd t)) (tw TJ (crd t)) u (iblk (F := Ideal) A c 0 t) (iblk (F := Ideal) A c 1 t)) (p.1 (ix2 u q)) q) (fun r => accNew u (scD (tw TI (crd t)) (tw TJ (crd t)) u (iblk (F := Ideal) A c 0 t) (iblk (F := Ideal) A c 1 t)) (iblk (F := Ideal) A c 2 t) (p.1 (ix2 u q)) (p.2 (ix3 u r q)) r q)
      (part Q K V u (512 * (iW t).toNat + q.val) ((jW t).toNat + 1)) := by
    have h := sums_step u (scD (tw TI (crd t)) (tw TJ (crd t)) u (iblk (F := Ideal) A c 0 t) (iblk (F := Ideal) A c 1 t)) (iblk (F := Ideal) A c 2 t) (p.1 (ix2 u q)) (fun r => p.2 (ix3 u r q)) q (part Q K V u (512 * (iW t).toNat + q.val) (jW t).toNat) (ih u q)
      (fun r k => vr V u r (512 * (jW t).toNat + k.val)) (fun r k => vv_val H t u r k) (fun k => scD_top H t u q k)
    rw [gain_scD H t u q] at h
    have e : part Q K V u (512 * (iW t).toNat + q.val) ((jW t).toNat + 1) = _ := funext fun r => part_succ Q K V u _ (jW t).toNat r
    rw [e]
    exact h
  rw [← funext ha, ← hm] at h
  exact h

end Cert.KernelIdeal.Attn

end
-- ==== Proof.ValD0.lean ====
/- The maxima and accumulators of head maps 0 and 1 and 2 and 3 at a point in the middle of a row block. -/
module

public import proofs.«01_k».proof.Proof.Core
public import proofs.«01_k».proof.Proof.RunD

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

theorem mD_3 (q : Fin 512) : (k0_pay63 (F := Ideal) (runD.sl.v190 (F := Ideal) arg3 arg4 x0 x1 a0)) (ix2 0 q) = mNew (sc 3 x0 x1) (a0 (ix2 3 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem mD_2 (q : Fin 512) : (runD.sl.v317 (F := Ideal) arg3 arg4 x0 x1 a0) (ix2 0 q) = mNew (sc 2 x0 x1) (a0 (ix2 2 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem mD_1 (q : Fin 512) : (runD.sl.v255 (F := Ideal) arg3 arg4 x0 x1 a0) (ix2 0 q) = mNew (sc 1 x0 x1) (a0 (ix2 1 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem mD_0 (q : Fin 512) : (runD.sl.v193 (F := Ideal) arg3 arg4 x0 x1 a0) (ix2 0 q) = mNew (sc 0 x0 x1) (a0 (ix2 0 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem aD_3 (r : Fin 144) (q : Fin 512) : (k0_pay64 (F := Ideal) (runD.sl.r_21 (F := Ideal) arg3 arg4 arg5 x0 x1 x2 a0 a1)) (ix3 0 r q) = accNew 3 (sc 3 x0 x1) x2 (a0 (ix2 3 q)) (a1 (ix3 3 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem aD_2 (r : Fin 144) (q : Fin 512) : (runD.sl.v320 (F := Ideal) arg3 arg4 arg5 x0 x1 x2 a0 a1) (ix3 0 r q) = accNew 2 (sc 2 x0 x1) x2 (a0 (ix2 2 q)) (a1 (ix3 2 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem aD_1 (r : Fin 144) (q : Fin 512) : (runD.sl.v258 (F := Ideal) arg3 arg4 arg5 x0 x1 x2 a0 a1) (ix3 0 r q) = accNew 1 (sc 1 x0 x1) x2 (a0 (ix2 1 q)) (a1 (ix3 1 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem aD_0 (r : Fin 144) (q : Fin 512) : (k0_pay30 (F := Ideal) (runD.sl.v181 (F := Ideal) arg3 arg4 arg5 x0 x1 x2 a0 a1)) (ix3 0 r q) = accNew 0 (sc 0 x0 x1) x2 (a0 (ix2 0 q)) (a1 (ix3 0 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

end Cert.KernelIdeal.Attn

end
-- ==== Proof.ValD4.lean ====
/- The maxima and accumulators of head maps 4 and 5 and 6 and 7 at a point in the middle of a row block. -/
module

public import proofs.«01_k».proof.Proof.Core
public import proofs.«01_k».proof.Proof.RunD

@[expose] public section

set_option maxRecDepth 16384
set_option Elab.async false

noncomputable section

namespace Cert.KernelIdeal.Attn

open Cert.KernelIdeal Cert.KernelIdeal.Gen
open Idealize.ShloMosaic
open Idealize.ShloMosaic.TcCoe

variable (i : grid0.Coords) (arg3 arg4 arg5 : Memref sig .tc .vmem S512x512 .bf16) (arg6 : Memref sig .tc .vmem S4x64 .f32)
  (arg7 : Memref sig .tc .vmem S128x1 .f32) (T0 T1 : S528.Idx → Elt Ideal .i32) (x0 x1 x2 : S512x512.Idx → Elt Ideal .bf16)
  (x3 : S4x64.Idx → Elt Ideal .f32) (x4 : S128x1.Idx → Elt Ideal .f32) (a0 : S8x512.Idx → Elt Ideal .f32) (a1 : S8x144x512.Idx → Elt Ideal .f32)

theorem mD_7 (q : Fin 512) : (runD.sl.v546 (F := Ideal) arg3 arg4 x0 x1 a0) (ix2 0 q) = mNew (sc 7 x0 x1) (a0 (ix2 7 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem mD_6 (q : Fin 512) : (runD.sl.v511 (F := Ideal) arg3 arg4 x0 x1 a0) (ix2 0 q) = mNew (sc 6 x0 x1) (a0 (ix2 6 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem mD_5 (q : Fin 512) : (runD.sl.v476 (F := Ideal) arg3 arg4 x0 x1 a0) (ix2 0 q) = mNew (sc 5 x0 x1) (a0 (ix2 5 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem mD_4 (q : Fin 512) : (runD.sl.v441 (F := Ideal) arg3 arg4 x0 x1 a0) (ix2 0 q) = mNew (sc 4 x0 x1) (a0 (ix2 4 q)) q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem aD_7 (r : Fin 144) (q : Fin 512) : (k0_pay194 (F := Ideal) (runD.sl.v543 (F := Ideal) arg3 arg4 arg5 x0 x1 x2 a0 a1)) (ix3 0 r q) = accNew 7 (sc 7 x0 x1) x2 (a0 (ix2 7 q)) (a1 (ix3 7 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem aD_6 (r : Fin 144) (q : Fin 512) : (runD.sl.v514 (F := Ideal) arg3 arg4 arg5 x0 x1 x2 a0 a1) (ix3 0 r q) = accNew 6 (sc 6 x0 x1) x2 (a0 (ix2 6 q)) (a1 (ix3 6 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem aD_5 (r : Fin 144) (q : Fin 512) : (runD.sl.v479 (F := Ideal) arg3 arg4 arg5 x0 x1 x2 a0 a1) (ix3 0 r q) = accNew 5 (sc 5 x0 x1) x2 (a0 (ix2 5 q)) (a1 (ix3 5 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

theorem aD_4 (r : Fin 144) (q : Fin 512) : (runD.sl.v444 (F := Ideal) arg3 arg4 arg5 x0 x1 x2 a0 a1) (ix3 0 r q) = accNew 4 (sc 4 x0 x1) x2 (a0 (ix2 4 q)) (a1 (ix3 4 r q)) r q := by
  frame_open
  simp (disch := decide) only [cov_hi, cov_lo, mrow_hit, mrow_miss, mrow_init, arow_hit, arow_miss, arow_init]
  simp only [View.readAt_rep, View.readAt_eq_ld, View.read_whole, View.read_rep]
  unfold_payloads
  pointwise
  simp only [View.read_rep, mul_zero, Finset.sum_const_zero, zero_add, add_zero]
  rfl

end Cert.KernelIdeal.Attn

end
-- ==== Proof.ValD.lean ====
/- What a point in the middle of a row block leaves. -/
module

public import proofs.«01_k».proof.Proof.ValD0
public import proofs.«01_k».proof.Proof.ValD4

@[expose] public section

set_option maxRecDepth 16384
set_option Elab.async false

noncomputable section

namespace Cert.KernelIdeal.Attn

open Cert.KernelIdeal Cert.KernelIdeal.Gen
open Idealize.ShloMosaic
open Idealize.ShloMosaic.TcCoe

variable (c : Dev nD) (i : grid0.Coords)
  (arg3 : Memref sig .tc .vmem S512x512 .bf16) (harg3 : arg3.IsWhole) (arg4 : Memref sig .tc .vmem S512x512 .bf16) (harg4 : arg4.IsWhole)
  (arg5 : Memref sig .tc .vmem S512x512 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S512x512 .bf16) (harg8 : arg8.IsWhole)
  (T0 T1 : S528.Idx → Elt Ideal .i32) (x0 x1 x2 : S512x512.Idx → Elt Ideal .bf16) (x3 : S4x64.Idx → Elt Ideal .f32) (x4 : S128x1.Idx → Elt Ideal .f32)
  (a0 : S8x512.Idx → Elt Ideal .f32) (a1 : S8x144x512.Idx → Elt Ideal .f32)
  (h0 : ¬(isFirst (wJ (F := Ideal) T1 i) = 1#1)) (h1 : (isBelow (wI (F := Ideal) T0 i) (wJ (F := Ideal) T1 i) = 1#1)) (h2 : ¬(isDiag (wI (F := Ideal) T0 i) (wJ (F := Ideal) T1 i) = 1#1)) (h4 : ¬(k0_cond4 (wI (F := Ideal) T0 i) (wJ (F := Ideal) T1 i) = 1#1))

theorem mD_all (u : Fin 8) (q : Fin 512) : (runD (F := Ideal) c i arg3 harg3 arg4 harg4 arg5 harg5 arg6 harg6 arg7 harg7 arg8 harg8 T0 T1 x0 x1 x2 x3 x4 a0 a1 h0 h1 h2 h4).1 (ix2 u q) = mNew (sc u x0 x1) (a0 (ix2 u q)) q := by
  have e : (runD (F := Ideal) c i arg3 harg3 arg4 harg4 arg5 harg5 arg6 harg6 arg7 harg7 arg8 harg8 T0 T1 x0 x1 x2 x3 x4 a0 a1 h0 h1 h2 h4).1 = View.canon (runD.sl.HS0_8 (F := Ideal) arg3 arg4 x0 x1 a0) := (show (runD (F := Ideal) c i arg3 harg3 arg4 harg4 arg5 harg5 arg6 harg6 arg7 harg7 arg8 harg8 T0 T1 x0 x1 x2 x3 x4 a0 a1 h0 h1 h2 h4).1 = sM.view.read (Elt Ideal) (sM.view.writes (Elt Ideal) sM.view.junk (runD.sl.HS0_8 (F := Ideal) arg3 arg4 x0 x1 a0)) from by delta runD; dsimp only; generalize (View.whole cc0_scratch0).writes (Elt Ideal) _ _ = f; rfl).trans (View.read_writes_junk_eq_canon sM.view _)
  rw [e]
  delta runD.sl.HS0_8
  rw [canon_m]; split
  · rename_i hu; obtain rfl : u = 7 := Fin.ext hu; apply mD_7
  rename_i hn7
  rw [canon_m]; split
  · rename_i hu; obtain rfl : u = 6 := Fin.ext hu; apply mD_6
  rename_i hn6
  rw [canon_m]; split
  · rename_i hu; obtain rfl : u = 5 := Fin.ext hu; apply mD_5
  rename_i hn5
  rw [canon_m]; split
  · rename_i hu; obtain rfl : u = 4 := Fin.ext hu; apply mD_4
  rename_i hn4
  rw [canon_m]; split
  · rename_i hu; obtain rfl : u = 3 := Fin.ext hu; apply mD_3
  rename_i hn3
  rw [canon_m]; split
  · rename_i hu; obtain rfl : u = 2 := Fin.ext hu; apply mD_2
  rename_i hn2
  rw [canon_m]; split
  · rename_i hu; obtain rfl : u = 1 := Fin.ext hu; apply mD_1
  rename_i hn1
  rw [canon_m]; split
  · rename_i hu; obtain rfl : u = 0 := Fin.ext hu; apply mD_0
  rename_i hn0
  have := u.isLt
  omega

theorem aD_all (u : Fin 8) (r : Fin 144) (q : Fin 512) : (runD (F := Ideal) c i arg3 harg3 arg4 harg4 arg5 harg5 arg6 harg6 arg7 harg7 arg8 harg8 T0 T1 x0 x1 x2 x3 x4 a0 a1 h0 h1 h2 h4).2.1 (ix3 u r q) = accNew u (sc u x0 x1) x2 (a0 (ix2 u q)) (a1 (ix3 u r q)) r q := by
  have e : (runD (F := Ideal) c i arg3 harg3 arg4 harg4 arg5 harg5 arg6 harg6 arg7 harg7 arg8 harg8 T0 T1 x0 x1 x2 x3 x4 a0 a1 h0 h1 h2 h4).2.1 = View.canon (runD.sl.HS1_8 (F := Ideal) arg3 arg4 arg5 x0 x1 x2 a0 a1) := (show (runD (F := Ideal) c i arg3 harg3 arg4 harg4 arg5 harg5 arg6 harg6 arg7 harg7 arg8 harg8 T0 T1 x0 x1 x2 x3 x4 a0 a1 h0 h1 h2 h4).2.1 = sA.view.read (Elt Ideal) (sA.view.writes (Elt Ideal) sA.view.junk (runD.sl.HS1_8 (F := Ideal) arg3 arg4 arg5 x0 x1 x2 a0 a1)) from by delta runD; dsimp only; generalize (View.whole cc0_scratch1).writes (Elt Ideal) _ _ = f; rfl).trans (View.read_writes_junk_eq_canon sA.view _)
  rw [e]
  delta runD.sl.HS1_8
  rw [canon_a]; split
  · rename_i hu; obtain rfl : u = 7 := Fin.ext hu; apply aD_7
  rename_i hn7
  rw [canon_a]; split
  · rename_i hu; obtain rfl : u = 6 := Fin.ext hu; apply aD_6
  rename_i hn6
  rw [canon_a]; split
  · rename_i hu; obtain rfl : u = 5 := Fin.ext hu; apply aD_5
  rename_i hn5
  rw [canon_a]; split
  · rename_i hu; obtain rfl : u = 4 := Fin.ext hu; apply aD_4
  rename_i hn4
  rw [canon_a]; split
  · rename_i hu; obtain rfl : u = 3 := Fin.ext hu; apply aD_3
  rename_i hn3
  rw [canon_a]; split
  · rename_i hu; obtain rfl : u = 2 := Fin.ext hu; apply aD_2
  rename_i hn2
  rw [canon_a]; split
  · rename_i hu; obtain rfl : u = 1 := Fin.ext hu; apply aD_1
  rename_i hn1
  rw [canon_a]; split
  · rename_i hu; obtain rfl : u = 0 := Fin.ext hu; apply aD_0
  rename_i hn0
  have := u.isLt
  omega

end Cert.KernelIdeal.Attn

end
-- ==== Proof.InvD.lean ====
/- The sums a point leaves in the scratch. -/
module

public import proofs.«01_k».proof.Proof.Scores
public import proofs.«01_k».proof.Proof.ValD

@[expose] public section

set_option maxRecDepth 16384
set_option Elab.async false

noncomputable section

namespace Cert.KernelIdeal.Attn

open Cert.KernelIdeal Cert.KernelIdeal.Gen
open Idealize.ShloMosaic
open Idealize.ShloMosaic.TcCoe

variable {A : (w : Fin 6) → (c : Dev nD) → Buf (Elt Ideal) ((spec0 w).arr.view.loc (c : Thread nD τ))}
variable {Q K V : Fin 512 → ℕ → ℝ} {c : Dev nD} (H : Holds A Q K V c) (t : Fin grid0.N)
include H

/-- What the point leaves, from what it found. -/
theorem invD (p : St Ideal) (q0 : ¬P0 t) (q1 : P1 t)
    (ih : ∀ (u : Fin 8) (q : Fin 512), Sums (p.1 (ix2 u q)) (fun r => p.2 (ix3 u r q)) (part Q K V u (512 * (iW t).toNat + q.val) (jW t).toNat)) :
    ∀ (u : Fin 8) (q : Fin 512),
    Sums (((atD A c t p q0 q1).1) (ix2 u q)) (fun r => ((atD A c t p q0 q1).2.1) (ix3 u r q)) (part Q K V u (512 * (iW t).toNat + q.val) ((jW t).toNat + 1)) := by
  intro u q
  have hm := mD_all c (crd t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) TI TJ (iblk (F := Ideal) A c 0 t) (iblk (F := Ideal) A c 1 t) (iblk (F := Ideal) A c 2 t) (iblk (F := Ideal) A c 3 t) (iblk (F := Ideal) A c 4 t) p.1 p.2 (hypsD (F := Ideal) t q0 q1).1 (hypsD (F := Ideal) t q0 q1).2.1 (hypsD (F := Ideal) t q0 q1).2.2.1 (hypsD (F := Ideal) t q0 q1).2.2.2 u q
  have ha := fun r : Fin 144 => aD_all c (crd t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) TI TJ (iblk (F := Ideal) A c 0 t) (iblk (F := Ideal) A c 1 t) (iblk (F := Ideal) A c 2 t) (iblk (F := Ideal) A c 3 t) (iblk (F := Ideal) A c 4 t) p.1 p.2 (hypsD (F := Ideal) t q0 q1).1 (hypsD (F := Ideal) t q0 q1).2.1 (hypsD (F := Ideal) t q0 q1).2.2.1 (hypsD (F := Ideal) t q0 q1).2.2.2 u r q
  have h : Sums (mNew (sc u (iblk (F := Ideal) A c 0 t) (iblk (F := Ideal) A c 1 t)) (p.1 (ix2 u q)) q) (fun r => accNew u (sc u (iblk (F := Ideal) A c 0 t) (iblk (F := Ideal) A c 1 t)) (iblk (F := Ideal) A c 2 t) (p.1 (ix2 u q)) (p.2 (ix3 u r q)) r q)
      (part Q K V u (512 * (iW t).toNat + q.val) ((jW t).toNat + 1)) := by
    have h := sums_step u (sc u (iblk (F := Ideal) A c 0 t) (iblk (F := Ideal) A c 1 t)) (iblk (F := Ideal) A c 2 t) (p.1 (ix2 u q)) (fun r => p.2 (ix3 u r q)) q (part Q K V u (512 * (iW t).toNat + q.val) (jW t).toNat) (ih u q)
      (fun r k => vr V u r (512 * (jW t).toNat + k.val)) (fun r k => vv_val H t u r k) (fun k => sc_top H t u q k)
    rw [gain_sc H t q1 u q] at h
    have e : part Q K V u (512 * (iW t).toNat + q.val) ((jW t).toNat + 1) = _ := funext fun r => part_succ Q K V u _ (jW t).toNat r
    rw [e]
    exact h
  rw [← funext ha, ← hm] at h
  exact h

end Cert.KernelIdeal.Attn

end
-- ==== Proof.Inv.lean ====
/- What every point leaves in the scratch: by induction over the points. -/
module

public import proofs.«01_k».proof.Proof.InvA
public import proofs.«01_k».proof.Proof.InvB
public import proofs.«01_k».proof.Proof.InvC
public import proofs.«01_k».proof.Proof.InvD

@[expose] public section

set_option maxRecDepth 16384
set_option Elab.async false

noncomputable section

namespace Cert.KernelIdeal.Attn

open Cert.KernelIdeal Cert.KernelIdeal.Gen
open Idealize.ShloMosaic
open Idealize.ShloMosaic.TcCoe

variable {A : (w : Fin 6) → (c : Dev nD) → Buf (Elt Ideal) ((spec0 w).arr.view.loc (c : Thread nD τ))}
variable {Q K V : Fin 512 → ℕ → ℝ} {c : Dev nD} (H : Holds A Q K V c) (t : Fin grid0.N)

/-- What a point's scratch says: for every head map and query, the sums over the key blocks met so far. -/
abbrev Inv (Q K V : Fin 512 → ℕ → ℝ) (t : Fin grid0.N) (p : St Ideal) : Prop := ∀ (u : Fin 8) (q : Fin 512),
  Sums (p.1 (ix2 u q)) (fun r => p.2 (ix3 u r q)) (part Q K V u (512 * (iW t).toNat + q.val) ((jW t).toNat + 1))

theorem inv_pair (t : Fin grid0.N) {M : S8x512.Idx → Elt Ideal .f32} {Acc : S8x144x512.Idx → Elt Ideal .f32}
    (h : ∀ (u : Fin 8) (q : Fin 512), Sums (M (ix2 u q)) (fun r => Acc (ix3 u r q)) (part Q K V u (512 * (iW t).toNat + q.val) ((jW t).toNat + 1))) :
    Inv Q K V t (M, Acc) := h

include H
/-- Every point leaves the sums over the key blocks its row block has met. -/
theorem inv_all : ∀ (n : ℕ) (t : Fin grid0.N), t.val = n → Inv Q K V t (traj A c (t.val + 1)) := by
  intro n
  induction n with
  | zero =>
    intro t ht
    rw [traj_succ]
    by_cases q0 : P0 t
    · unfold step; rw [dif_pos q0]
      by_cases q1 : P1 t
      · rw [dif_pos q1]; exact inv_pair t (invB H t q0 q1)
      · rw [dif_neg q1]; exact inv_pair t (invA H t q0 q1)
    · rcases pred_pt t with h | ⟨h, -⟩
      · exact absurd h (j_of_nP0 t q0)
      · exact absurd ht h
  | succ n ih =>
    intro t ht
    rw [traj_succ]
    by_cases q0 : P0 t
    · unfold step; rw [dif_pos q0]
      by_cases q1 : P1 t
      · rw [dif_pos q1]; exact inv_pair t (invB H t q0 q1)
      · rw [dif_neg q1]; exact inv_pair t (invA H t q0 q1)
    · have hp : ∀ (u : Fin 8) (q : Fin 512), Sums ((traj A c t.val).1 (ix2 u q)) (fun r => (traj A c t.val).2 (ix3 u r q))
          (part Q K V u (512 * (iW t).toNat + q.val) (jW t).toNat) := by
        intro u q
        rcases pred_pt t with h | ⟨-, hi, hj⟩
        · exact absurd h (j_of_nP0 t q0)
        · have hs := ih ⟨t.val - 1, Nat.lt_of_le_of_lt (Nat.sub_le _ _) t.isLt⟩ (by show t.val - 1 = n; omega) u q
          rw [hi, hj] at hs
          have e : t.val - 1 + 1 = t.val := by omega
          rw [show ((⟨t.val - 1, Nat.lt_of_le_of_lt (Nat.sub_le _ _) t.isLt⟩ : Fin grid0.N)).val + 1 = t.val from e] at hs
          exact hs
      unfold step; rw [dif_neg q0]
      by_cases q1 : P1 t
      · rw [dif_pos q1]; exact inv_pair t (invD H t _ q0 q1 hp)
      · rw [dif_neg q1]; exact inv_pair t (invC H t _ q0 q1 hp)

end Cert.KernelIdeal.Attn

end
-- ==== Proof.Out.lean ====
/- What the call leaves in its result array. -/
module

public import proofs.«01_k».proof.Proof.Inv

@[expose] public section

set_option maxRecDepth 16384
set_option Elab.async false

noncomputable section

namespace Cert.KernelIdeal.Attn

open Cert.KernelIdeal Cert.KernelIdeal.Gen
open Idealize.ShloMosaic
open Idealize.ShloMosaic.TcCoe

variable {A : (w : Fin 6) → (c : Dev nD) → Buf (Elt Ideal) ((spec0 w).arr.view.loc (c : Thread nD τ))}
variable {Q K V : Fin 512 → ℕ → ℝ} {c : Dev nD} (H : Holds A Q K V c) (t : Fin grid0.N)

/-! ## A head's output for a query, as real numbers up to the normalisation -/

/-- The first map's average of the values less `l` of the second's, over the first `j` blocks of keys. -/
def dif (Q K V : Fin 512 → ℕ → ℝ) (l : ℝ) (h : Fin 4) (n j : ℕ) (r : Fin 128) : ℝ :=
  part Q K V (ev h) n j ⟨r.val, by omega⟩ / part Q K V (ev h) n j 128 - l * (part Q K V (od h) n j ⟨r.val, by omega⟩ / part Q K V (od h) n j 128)

theorem wt_nonneg (Q K : Fin 512 → ℕ → ℝ) (u : Fin 8) (k n : ℕ) : 0 ≤ wt Q K u k n := by
  unfold wt
  split
  · exact (p2_pos _).le
  · exact le_refl _

theorem part_pos (Q K V : Fin 512 → ℕ → ℝ) (u : Fin 8) (n j : ℕ) (hj : 0 < j) : 0 < part Q K V u n j 128 := by
  unfold part
  refine Finset.sum_pos' (fun k _ => ?_) ⟨0, Finset.mem_range.mpr (by omega), ?_⟩
  · unfold vr; rw [dif_neg (show ¬((128 : Fin 144).val < 128) by decide), one_mul]; exact wt_nonneg Q K u k n
  · unfold vr wt; rw [dif_neg (show ¬((128 : Fin 144).val < 128) by decide), one_mul, if_pos (Nat.zero_le n)]; exact p2_pos _

theorem outF_real {mA mB : EReal} {X Y : Fin 144 → EReal} {TA TB : Fin 144 → ℝ} (hA : Sums mA X TA) (hB : Sums mB Y TB)
    (pA : 0 < TA 128) (pB : 0 < TB 128) (x3 y3 : S4x64.Idx → EReal) (x4 y4 : S128x1.Idx → EReal) (h3 : x3 = y3) (h4 : x4 = y4) (l : ℝ)
    (hl : lamE y3 = l) (r : Fin 128) :
    outF X Y x3 x4 r = nrm (fun r => ((TA ⟨r.val, by omega⟩ / TA 128 - l * (TB ⟨r.val, by omega⟩ / TB 128) : ℝ) : EReal)) y4 r := by
  subst h3 h4
  unfold outF
  rw [hl, show cmb X Y (l : EReal) = _ from funext fun r => cmb_real hA hB pA pB l r]

theorem blk3 : (iblk (F := Ideal) A c 3 t : S4x64.Idx → EReal) = A 3 c := funext fun y => b3 A c t y
theorem blk4 : (iblk (F := Ideal) A c 4 t : S128x1.Idx → EReal) = A 4 c := funext fun y => b4 A c t y

theorem outAtA (q0 : P0 t) (q1 : ¬P1 t) (p : St Ideal) : outAt A c t p = View.canon (atA A c t q0 q1).1 := by
  unfold outAt
  rw [dif_neg q1, dif_pos q0]
  exact View.read_writes_junk_eq_canon VO _

include H in
theorem endA (q0 : P0 t) (q1 : ¬P1 t)  (l : ℝ) (hl : lamE (A 3 c) = l) (h : Fin 4) (r : Fin 128) (q : Fin 512) :
    outAt A c t (traj A c t.val) (ix2 (row h r) q)
      = nrm (fun r => ((dif Q K V l h (512 * (iW t).toNat + q.val) ((jW t).toNat + 1) r : ℝ) : EReal)) (A 4 c) r := by
  have o := oA_all c (crd t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) TI TJ (iblk (F := Ideal) A c 0 t) (iblk (F := Ideal) A c 1 t) (iblk (F := Ideal) A c 2 t) (iblk (F := Ideal) A c 3 t) (iblk (F := Ideal) A c 4 t) (hypsA (F := Ideal) t q0 q1).1 (hypsA (F := Ideal) t q0 q1).2.1 (hypsA (F := Ideal) t q0 q1).2.2.1 (hypsA (F := Ideal) t q0 q1).2.2.2 h r q
  have sA := invA H t q0 q1 (ev h) q
  have sB := invA H t q0 q1 (od h) q
  have f := outF_real sA sB (part_pos Q K V _ _ _ (Nat.succ_pos _)) (part_pos Q K V _ _ _ (Nat.succ_pos _)) _ _ _ _ (blk3 (A := A) (c := c) t) (blk4 (A := A) (c := c) t) l hl r
  exact (congrFun (outAtA t q0 q1 (traj A c t.val)) (ix2 (row h r) q)).trans (o.trans f)

theorem outAtC (q0 : ¬P0 t) (q1 : ¬P1 t) (p : St Ideal) : outAt A c t p = View.canon (atC A c t p q0 q1).1 := by
  unfold outAt
  rw [dif_neg q1, dif_neg q0]
  exact View.read_writes_junk_eq_canon VO _

include H in
theorem endC (q0 : ¬P0 t) (q1 : ¬P1 t) (ih : ∀ (u : Fin 8) (q : Fin 512), Sums ((traj A c t.val).1 (ix2 u q)) (fun r => (traj A c t.val).2 (ix3 u r q)) (part Q K V u (512 * (iW t).toNat + q.val) (jW t).toNat)) (l : ℝ) (hl : lamE (A 3 c) = l) (h : Fin 4) (r : Fin 128) (q : Fin 512) :
    outAt A c t (traj A c t.val) (ix2 (row h r) q)
      = nrm (fun r => ((dif Q K V l h (512 * (iW t).toNat + q.val) ((jW t).toNat + 1) r : ℝ) : EReal)) (A 4 c) r := by
  have o := oC_all c (crd t) (ms0 (F := Ideal) t) (hs0 (F := Ideal) t) (ms1 (F := Ideal) t) (hs1 (F := Ideal) t) (ms2 (F := Ideal) t) (hs2 (F := Ideal) t) (ms3 (F := Ideal) t) (hs3 (F := Ideal) t) (ms4 (F := Ideal) t) (hs4 (F := Ideal) t) (ms5 (F := Ideal) t) (hs5 (F := Ideal) t) TI TJ (iblk (F := Ideal) A c 0 t) (iblk (F := Ideal) A c 1 t) (iblk (F := Ideal) A c 2 t) (iblk (F := Ideal) A c 3 t) (iblk (F := Ideal) A c 4 t) (traj A c t.val).1 (traj A c t.val).2 (hypsC (F := Ideal) t q0 q1).1 (hypsC (F := Ideal) t q0 q1).2.1 (hypsC (F := Ideal) t q0 q1).2.2.1 (hypsC (F := Ideal) t q0 q1).2.2.2 h r q
  have sA := invC H t (traj A c t.val) q0 q1 ih (ev h) q
  have sB := invC H t (traj A c t.val) q0 q1 ih (od h) q
  have f := outF_real sA sB (part_pos Q K V _ _ _ (Nat.succ_pos _)) (part_pos Q K V _ _ _ (Nat.succ_pos _)) _ _ _ _ (blk3 (A := A) (c := c) t) (blk4 (A := A) (c := c) t) l hl r
  exact (congrFun (outAtC t q0 q1 (traj A c t.val)) (ix2 (row h r) q)).trans (o.trans f)

include H
/-- What a diagonal point writes. -/
theorem out_at (q1 : ¬P1 t) (l : ℝ) (hl : lamE (A 3 c) = l) (h : Fin 4) (r : Fin 128) (q : Fin 512) :
    outAt A c t (traj A c t.val) (ix2 (row h r) q)
      = nrm (fun r => ((dif Q K V l h (512 * (iW t).toNat + q.val) ((iW t).toNat + 1) r : ℝ) : EReal)) (A 4 c) r := by
  rw [← j_of_nP1 t q1]
  rw [show 512 * (jW t).toNat + q.val = 512 * (iW t).toNat + q.val by rw [j_of_nP1 t q1]]
  by_cases q0 : P0 t
  · exact endA H t q0 q1 l hl h r q
  · refine endC H t q0 q1 ?_ l hl h r q
    intro u q
    rcases pred_pt t with h | ⟨h0, hi, hj⟩
    · exact absurd h (j_of_nP0 t q0)
    · have hs := inv_all H (t.val - 1) ⟨t.val - 1, Nat.lt_of_le_of_lt (Nat.sub_le _ _) t.isLt⟩ rfl u q
      rw [hi, hj] at hs
      have e : t.val - 1 + 1 = t.val := by omega
      rw [show ((⟨t.val - 1, Nat.lt_of_le_of_lt (Nat.sub_le _ _) t.isLt⟩ : Fin grid0.N)).val + 1 = t.val from e] at hs
      exact hs

/-- The result array, entry by entry. -/
def resG (Q K V : Fin 512 → ℕ → ℝ) (l : ℝ) (x4 : S128x1.Idx → EReal) : S512x16384.Idx → EReal := fun y =>
  nrm (fun r => ((dif Q K V l ⟨(y 0).val / 128, by have h : (y 0).val < 512 := (y 0).isLt; omega⟩ (y 1).val ((y 1).val / 512 + 1) r : ℝ) : EReal)) x4
    ⟨(y 0).val % 128, Nat.mod_lt _ (by decide)⟩

theorem out_y (q1 : ¬P1 t) (l : ℝ) (hl : lamE (A 3 c) = l) (a b : Fin 512) (n : Fin 16384) (hn : n.val = (iW t).toNat * 512 + b.val) :
    outAt A c t (traj A c t.val) (ix2 a b) = resG Q K V l (A 4 c) (ix2 a n) := by
  have ea : row ⟨a.val / 128, by omega⟩ ⟨a.val % 128, Nat.mod_lt _ (by decide)⟩ = a := Fin.ext (by show 128 * (a.val / 128) + a.val % 128 = a.val; omega)
  have o := out_at H t q1 l hl ⟨a.val / 128, by omega⟩ ⟨a.val % 128, Nat.mod_lt _ (by decide)⟩ b
  rw [ea] at o
  refine o.trans ?_
  have e1 : 512 * (iW t).toNat + b.val = n.val := by omega
  have e2 : (iW t).toNat + 1 = n.val / 512 + 1 := by omega
  rw [e1, e2]
  rfl

theorem final (l : ℝ) (hl : lamE (A 3 c) = l) : (dats A 0 c).arrAt (5 : Fin 6) grid0.N = resG Q K V l (A 4 c) := by
  refine (dats A 0 c).arrAt_eq_of_covers (5 : Fin 6) (resG Q K V l (A 4 c)) covers5 (fun t hf y => ?_)
  have q1 : ¬P1 t := fun q1 => by
    by_cases q0 : P0 t
    · have := (schedB (F := Ideal) t q0 q1).2; rw [hf] at this; exact absurd this (by decide)
    · have := (schedD (F := Ideal) t q0 q1).2; rw [hf] at this; exact absurd this (by decide)
  have hy1 : (y 1).val < 512 := (y 1).isLt
  have hi := (pl t).2
  have e := e5 t y ⟨(iW t).toNat * 512 + (y 1).val, by omega⟩ rfl
  have o := out_y H t q1 l hl (y 0) (y 1) ⟨(iW t).toNat * 512 + (y 1).val, by omega⟩ rfl
  have ey : y = (ix2 (y 0) (y 1) : S512x512.Idx) := funext fun a => by
    match a with
    | ⟨0, _⟩ => rfl
    | ⟨1, _⟩ => rfl
  rw [e]
  exact (congrArg (outAt A c t (traj A c t.val)) ey).trans o

end Cert.KernelIdeal.Attn

end
-- ==== Proof.RefAt.lean ====
/- The reference, read at an index. -/
module

public import proofs.«01_k».proof.Proof.Gen.ReferenceIdeal.Read
public import Idealize.ShloMosaic.Lib.Pointwise

@[expose] public section

set_option maxRecDepth 16384
set_option Elab.async false

noncomputable section

namespace Cert.ReferenceIdeal.Attn

open Cert.ReferenceIdeal Cert.ReferenceIdeal.Gen Cert.ReferenceIdeal.Read Idealize.ShloMosaic Idealize.ShloMosaic.TcCoe Idealize.ShloMosaic.StableHlo

variable (x0 x1 : (⟨S1x16384x4x2x64, .f32⟩ : BufTy).Contents (Elt Ideal)) (x2 : (⟨S1x16384x4x128, .f32⟩ : BufTy).Contents (Elt Ideal))
  (x3 : (⟨S1x4x64, .f32⟩ : BufTy).Contents (Elt Ideal)) (x4 : (⟨S1x128, .f32⟩ : BufTy).Contents (Elt Ideal))

/-! ## The reference at an index, as its own operations leave it -/

theorem v19_at (h : Fin 4) (e : Fin 2) (n k : Fin 16384) :
    val_main_v19 (F := Ideal) x0 x1 (ix5 0 h e n k) = ∑ d : Fin 64, x0 (ix5 0 n h e d) * x1 (ix5 0 k h e d) := by
  rw [val_main_v19_apply]
  refine Finset.sum_congr rfl fun d _ => ?_
  have e0 : lidx_main_v19 (ix5 0 h e n k) d = ix5 0 n h e d := funext fun a => by
    match a with | ⟨0, _⟩ => rfl | ⟨1, _⟩ => rfl | ⟨2, _⟩ => rfl | ⟨3, _⟩ => rfl | ⟨4, _⟩ => rfl
  have e1 : ridx_main_v19 (ix5 0 h e n k) d = ix5 0 k h e d := funext fun a => by
    match a with | ⟨0, _⟩ => rfl | ⟨1, _⟩ => rfl | ⟨2, _⟩ => rfl | ⟨3, _⟩ => rfl | ⟨4, _⟩ => rfl
  rw [e0, e1]

theorem v21_at (h : Fin 4) (e : Fin 2) (n k : Fin 16384) :
    val_main_v21 (F := Ideal) x0 x1 (ix5 0 h e n k) = (∑ d : Fin 64, x0 (ix5 0 n h e d) * x1 (ix5 0 k h e d)) * Ideal.ofBits .f32 0x3E000000#32 := by
  rw [val_main_v21_apply, v19_at, val_main_v20_apply]; rfl

theorem v26_at (n k : Fin 16384) : val_main_v26 (F := Ideal) (ix2 n k) = IntOp.cmpi .sle (BitVec.ofNat 32 k.val) (BitVec.ofNat 32 n.val) := by
  rw [val_main_v26_apply, val_main_v24_apply, val_main_v22_apply, val_main_v18_apply, val_main_v25_apply, val_main_v23_apply, val_main_v17_apply]; rfl

theorem mask (n k : Fin 16384) : val_main_v26 (F := Ideal) (ix2 n k) = if k.val ≤ n.val then 1#1 else 0#1 := by
  rw [v26_at]
  have h1 : (BitVec.ofNat 32 k.val).toNat = k.val := by rw [BitVec.toNat_ofNat]; omega
  have h2 : (BitVec.ofNat 32 n.val).toNat = n.val := by rw [BitVec.toNat_ofNat]; omega
  generalize BitVec.ofNat 32 k.val = x at h1 ⊢
  generalize BitVec.ofNat 32 n.val = y at h2 ⊢
  have hx : x.toInt = (x.toNat : ℤ) := BitVec.toInt_eq_toNat_of_lt (by omega)
  have hy : y.toInt = (y.toNat : ℤ) := BitVec.toInt_eq_toNat_of_lt (by omega)
  show BitVec.ofBool (x.sle y) = _
  unfold BitVec.sle
  rw [hx, hy, h1, h2]
  by_cases h : k.val ≤ n.val
  · rw [if_pos h, decide_eq_true (by exact_mod_cast h)]; rfl
  · rw [if_neg h, decide_eq_false (by exact_mod_cast h)]; rfl

theorem c0v1_at (h : Fin 4) (e : Fin 2) (n k : Fin 16384) :
    val_main_call0_v1 (F := Ideal) (ix5 0 h e n k) = if k.val ≤ n.val then 1#1 else 0#1 := by
  rw [val_main_call0_v1_apply, ← mask]
  exact congrArg _ (funext fun a => by match a with | ⟨0, _⟩ => rfl | ⟨1, _⟩ => rfl)
theorem c1v1_at (h : Fin 4) (e : Fin 2) (n k : Fin 16384) :
    val_main_call1_v1 (F := Ideal) (ix5 0 h e n k) = if k.val ≤ n.val then 1#1 else 0#1 := by
  rw [val_main_call1_v1_apply, ← mask]
  exact congrArg _ (funext fun a => by match a with | ⟨0, _⟩ => rfl | ⟨1, _⟩ => rfl)

theorem v27_at (h : Fin 4) (e : Fin 2) (n k : Fin 16384) :
    val_main_v27 (F := Ideal) x0 x1 (ix5 0 h e n k) = if k.val ≤ n.val then val_main_v21 (F := Ideal) x0 x1 (ix5 0 h e n k) else Ideal.ofBits .f32 0xFF800000#32 := by
  rw [val_main_v27_apply, c0v1_at, val_main_call0_v2_apply]
  by_cases hk : k.val ≤ n.val
  · rw [if_pos hk, if_pos hk]; rfl
  · rw [if_neg hk, if_neg hk]; rfl

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

theorem v28_at (h : Fin 4) (e : Fin 2) (n : Fin 16384) :
    val_main_v28 (F := Ideal) x0 x1 (ix4 0 h e n)
      = Finset.fold (max : EReal → EReal → EReal) (Ideal.ofBits .f32 0xFF800000#32) (fun k : Fin 16384 => val_main_v27 (F := Ideal) x0 x1 (ix5 0 h e n k)) Finset.univ := by
  unfold val_main_v28
  generalize val_main_v27 (F := Ideal) x0 x1 = y
  rw [Host.reduce_eq_fold_single _ y _ reducesTo_S1x4x2x16384x16384_S1x4x2x16384_d4 (by decide)]
  refine congrArg (fun f => Finset.fold (max : EReal → EReal → EReal) (Ideal.ofBits .f32 0xFF800000#32) f Finset.univ) (funext fun k => ?_)
  exact congrArg y (funext fun a => Fin.ext (by match a with | ⟨0, _⟩ => rfl | ⟨1, _⟩ => rfl | ⟨2, _⟩ => rfl | ⟨3, _⟩ => rfl | ⟨4, _⟩ => rfl))

theorem v30_at (h : Fin 4) (e : Fin 2) (n k : Fin 16384) :
    val_main_v30 (F := Ideal) x0 x1 (ix5 0 h e n k) = val_main_v28 (F := Ideal) x0 x1 (ix4 0 h e n) := by
  rw [val_main_v30_apply, val_main_v29_apply]
  exact congrArg _ (funext fun a => by match a with | ⟨0, _⟩ => rfl | ⟨1, _⟩ => rfl | ⟨2, _⟩ => rfl | ⟨3, _⟩ => rfl)

theorem v33_at (h : Fin 4) (e : Fin 2) (n k : Fin 16384) :
    val_main_v33 (F := Ideal) x0 x1 (ix5 0 h e n k)
      = if k.val ≤ n.val then Ideal.exp (val_main_v27 (F := Ideal) x0 x1 (ix5 0 h e n k) - val_main_v28 (F := Ideal) x0 x1 (ix4 0 h e n)) else Ideal.ofBits .f32 0#32 := by
  rw [val_main_v33_apply, c1v1_at, val_main_call1_v2_apply, val_main_v32_apply, val_main_v31_apply, v30_at]
  by_cases hk : k.val ≤ n.val
  · rw [if_pos hk, if_pos hk]; rfl
  · rw [if_neg hk, if_neg hk]; rfl

theorem v34_at (h : Fin 4) (e : Fin 2) (n : Fin 16384) :
    val_main_v34 (F := Ideal) x0 x1 (ix4 0 h e n) = Ideal.ofBits .f32 0#32 + ∑ k : Fin 16384, val_main_v33 (F := Ideal) x0 x1 (ix5 0 h e n k) := by
  rw [val_main_v34_apply]
  refine congrArg (_ + ·) (Finset.sum_congr rfl fun k _ => ?_)
  exact congrArg _ (funext fun a => by match a with | ⟨0, _⟩ => rfl | ⟨1, _⟩ => rfl | ⟨2, _⟩ => rfl | ⟨3, _⟩ => rfl | ⟨4, _⟩ => rfl)

theorem v38_at (h : Fin 4) (e : Fin 2) (n k : Fin 16384) :
    val_main_v38 (F := Ideal) x0 x1 (ix5 0 h e n k) = max (val_main_v34 (F := Ideal) x0 x1 (ix4 0 h e n)) (Ideal.ofBits .f32 0x0DA24260#32) := by
  rw [val_main_v38_apply, val_main_v37_apply, val_main_v35_apply, val_main_v36_apply]
  have e0 : idx_main_v35 (idx_main_v38 (ix5 0 h e n k)) = ix4 0 h e n := funext fun a => by
    match a with | ⟨0, _⟩ => rfl | ⟨1, _⟩ => rfl | ⟨2, _⟩ => rfl | ⟨3, _⟩ => rfl
  rw [e0]; rfl

theorem v39_at (h : Fin 4) (e : Fin 2) (n k : Fin 16384) :
    val_main_v39 (F := Ideal) x0 x1 (ix5 0 h e n k)
      = Ideal.div (val_main_v33 (F := Ideal) x0 x1 (ix5 0 h e n k)) (max (val_main_v34 (F := Ideal) x0 x1 (ix4 0 h e n)) (Ideal.ofBits .f32 0x0DA24260#32)) := by
  rw [val_main_v39_apply, v38_at]; rfl

theorem v41_at (h : Fin 4) (n k : Fin 16384) : val_main_v41 (F := Ideal) x0 x1 (ix4 0 h n k) = val_main_v39 (F := Ideal) x0 x1 (ix5 0 h 0 n k) := by
  rw [val_main_v41_apply, val_main_v40_apply]
  refine congrArg _ (funext fun a => Fin.ext ?_)
  match a with
  | ⟨0, _⟩ => rfl
  | ⟨1, _⟩ => show (((0 * 4 + h.val) * 16384 + n.val) * 16384 + k.val) / 268435456 % 4 = h.val; omega
  | ⟨2, _⟩ => rfl
  | ⟨3, _⟩ => show (((0 * 4 + h.val) * 16384 + n.val) * 16384 + k.val) / 16384 % 16384 = n.val; omega
  | ⟨4, _⟩ => show (((0 * 4 + h.val) * 16384 + n.val) * 16384 + k.val) % 16384 = k.val; omega

theorem v43_at (h : Fin 4) (n k : Fin 16384) : val_main_v43 (F := Ideal) x0 x1 (ix4 0 h n k) = val_main_v39 (F := Ideal) x0 x1 (ix5 0 h 1 n k) := by
  rw [val_main_v43_apply, val_main_v42_apply]
  refine congrArg _ (funext fun a => Fin.ext ?_)
  match a with
  | ⟨0, _⟩ => rfl
  | ⟨1, _⟩ => show (((0 * 4 + h.val) * 16384 + n.val) * 16384 + k.val) / 268435456 % 4 = h.val; omega
  | ⟨2, _⟩ => rfl
  | ⟨3, _⟩ => show (((0 * 4 + h.val) * 16384 + n.val) * 16384 + k.val) / 16384 % 16384 = n.val; omega
  | ⟨4, _⟩ => show (((0 * 4 + h.val) * 16384 + n.val) * 16384 + k.val) % 16384 = k.val; omega

/-- The weight of the second map, out of its four vectors. -/
def lamR : EReal := Ideal.exp (∑ d : Fin 64, x3 (ix3 0 0 d) * x3 (ix3 0 1 d)) - Ideal.exp (∑ d : Fin 64, x3 (ix3 0 2 d) * x3 (ix3 0 3 d)) + Ideal.ofBits .f32 0x3E4CCCCD#32

theorem zero32 : Ideal.ofBits .f32 0#32 = 0 := by simp [Ideal.ofBits, Ideal.ieee]

theorem v5_at (d : Fin 64) : val_main_v5 (F := Ideal) x3 (ix1 d) = x3 (ix3 0 0 d) * x3 (ix3 0 1 d) := by
  rw [val_main_v5_apply, val_main_v2_apply, val_main_v1_apply, val_main_v0_apply, val_main_v4_apply, val_main_v3_apply, val_main_v0_apply]
  refine congr (congrArg (fun a b : EReal => a * b) (congrArg x3 (funext fun a => Fin.ext ?_))) (congrArg x3 (funext fun a => Fin.ext ?_))
  · match a with
    | ⟨0, _⟩ => rfl
    | ⟨1, _⟩ => show (0 * 64 + d.val % 64) / 64 % 4 = 0; omega
    | ⟨2, _⟩ => show (0 * 64 + d.val % 64) % 64 = d.val; omega
  · match a with
    | ⟨0, _⟩ => rfl
    | ⟨1, _⟩ => show ((1 + 0) * 64 + d.val % 64) / 64 % 4 = 1; omega
    | ⟨2, _⟩ => show ((1 + 0) * 64 + d.val % 64) % 64 = d.val; omega
theorem v12_at (d : Fin 64) : val_main_v12 (F := Ideal) x3 (ix1 d) = x3 (ix3 0 2 d) * x3 (ix3 0 3 d) := by
  rw [val_main_v12_apply, val_main_v9_apply, val_main_v8_apply, val_main_v0_apply, val_main_v11_apply, val_main_v10_apply, val_main_v0_apply]
  refine congr (congrArg (fun a b : EReal => a * b) (congrArg x3 (funext fun a => Fin.ext ?_))) (congrArg x3 (funext fun a => Fin.ext ?_))
  · match a with
    | ⟨0, _⟩ => rfl
    | ⟨1, _⟩ => show ((2 + 0) * 64 + d.val % 64) / 64 % 4 = 2; omega
    | ⟨2, _⟩ => show ((2 + 0) * 64 + d.val % 64) % 64 = d.val; omega
  · match a with
    | ⟨0, _⟩ => rfl
    | ⟨1, _⟩ => show ((3 + 0) * 64 + d.val % 64) / 64 % 4 = 3; omega
    | ⟨2, _⟩ => show ((3 + 0) * 64 + d.val % 64) % 64 = d.val; omega

/-- The indices of a vector, counted. -/
def vecEquiv : Fin 64 ≃ S64.Idx where
  toFun d := ix1 d
  invFun i := i 0
  left_inv _ := rfl
  right_inv i := funext fun a => by match a with | ⟨0, _⟩ => rfl

theorem v16_at (i : S_.Idx) : val_main_v16 (F := Ideal) x3 i = lamR x3 := by
  rw [val_main_v16_apply, val_main_v15_apply, val_main_v7_apply, val_main_v14_apply, val_main_v6_apply, val_main_v13_apply,
    val_main_cst_apply, val_main_cst_0_apply, ← vecEquiv.sum_comp, ← vecEquiv.sum_comp]
  have z : (FloatOps.ofBits .f32 0x00000000#32 : Ideal .f32) = (0 : EReal) := zero32
  rw [z, zero_add, zero_add]
  have e5 : ∀ d, val_main_v5 (F := Ideal) x3 (vecEquiv d) = x3 (ix3 0 0 d) * x3 (ix3 0 1 d) := fun d => v5_at x3 d
  have e12 : ∀ d, val_main_v12 (F := Ideal) x3 (vecEquiv d) = x3 (ix3 0 2 d) * x3 (ix3 0 3 d) := fun d => v12_at x3 d
  simp only [e5, e12]
  rfl

theorem v46_at (h : Fin 4) (n k : Fin 16384) : val_main_v46 (F := Ideal) x0 x1 x3 (ix4 0 h n k)
    = val_main_v39 (F := Ideal) x0 x1 (ix5 0 h 0 n k) - lamR x3 * val_main_v39 (F := Ideal) x0 x1 (ix5 0 h 1 n k) := by
  rw [val_main_v46_apply, v41_at, val_main_v45_apply, v43_at, val_main_v44_apply, v16_at]; rfl

theorem v47_at (h : Fin 4) (r : Fin 128) (n : Fin 16384) : val_main_v47 (F := Ideal) x0 x1 x2 x3 (ix4 0 h r n)
    = ∑ k : Fin 16384, x2 (ix4 0 k h r) * (val_main_v39 (F := Ideal) x0 x1 (ix5 0 h 0 n k) - lamR x3 * val_main_v39 (F := Ideal) x0 x1 (ix5 0 h 1 n k)) := by
  rw [val_main_v47_apply]
  refine Finset.sum_congr rfl fun k _ => ?_
  have e0 : lidx_main_v47 (ix4 0 h r n) k = ix4 0 k h r := funext fun a => by match a with | ⟨0, _⟩ => rfl | ⟨1, _⟩ => rfl | ⟨2, _⟩ => rfl | ⟨3, _⟩ => rfl
  have e1 : ridx_main_v47 (ix4 0 h r n) k = ix4 0 h n k := funext fun a => by match a with | ⟨0, _⟩ => rfl | ⟨1, _⟩ => rfl | ⟨2, _⟩ => rfl | ⟨3, _⟩ => rfl
  rw [e0, e1, v46_at]

theorem v48_at (n : Fin 16384) (h : Fin 4) (r : Fin 128) : val_main_v48 (F := Ideal) x0 x1 x2 x3 (ix4 0 n h r)
    = val_main_v47 (F := Ideal) x0 x1 x2 x3 (ix4 0 h r n) := by
  rw [val_main_v48_apply]
  exact congrArg _ (funext fun a => by match a with | ⟨0, _⟩ => rfl | ⟨1, _⟩ => rfl | ⟨2, _⟩ => rfl | ⟨3, _⟩ => rfl)

theorem v51_at (n : Fin 16384) (h : Fin 4) : val_main_v51 (F := Ideal) x0 x1 x2 x3 (ix3 0 n h)
    = ∑ r : Fin 128, val_main_v47 (F := Ideal) x0 x1 x2 x3 (ix4 0 h r n) * val_main_v47 (F := Ideal) x0 x1 x2 x3 (ix4 0 h r n) := by
  rw [val_main_v51_apply, val_main_cst_8_apply]
  have z : (FloatOps.ofBits .f32 0x00000000#32 : Ideal .f32) = (0 : EReal) := zero32
  rw [z, zero_add]
  refine Finset.sum_congr rfl fun r _ => ?_
  have e0 : idx_main_v51 (ix3 0 n h) r = ix4 0 n h r := funext fun a => by match a with | ⟨0, _⟩ => rfl | ⟨1, _⟩ => rfl | ⟨2, _⟩ => rfl | ⟨3, _⟩ => rfl
  rw [e0, val_main_v50_apply, v48_at]; rfl

theorem v58_at (n : Fin 16384) (h : Fin 4) (r : Fin 128) : val_main_v58 (F := Ideal) x0 x1 x2 x3 (ix4 0 n h r)
    = Ideal.rsqrt (Ideal.div (val_main_v51 (F := Ideal) x0 x1 x2 x3 (ix3 0 n h)) (Ideal.ofBits .f32 0x43000000#32) + Ideal.ofBits .f32 0x358637BD#32) := by
  rw [val_main_v58_apply, val_main_v57_apply, val_main_v56_apply, val_main_v54_apply, val_main_v55_apply, val_main_v52_apply, val_main_v53_apply]
  have e0 : idx_main_v52 (idx_main_v58 (ix4 0 n h r)) = ix3 0 n h := funext fun a => by match a with | ⟨0, _⟩ => rfl | ⟨1, _⟩ => rfl | ⟨2, _⟩ => rfl
  rw [e0]; rfl

theorem v61_at (n : Fin 16384) (h : Fin 4) (r : Fin 128) : val_main_v61 (F := Ideal) x4 (ix4 0 n h r) = x4 (ix2 0 r) := by
  rw [val_main_v61_apply, val_main_v60_apply, val_main_v49_apply]
  refine congrArg x4 (funext fun a => Fin.ext ?_)
  match a with
  | ⟨0, _⟩ => rfl
  | ⟨1, _⟩ => show r.val % 128 = r.val; omega

/-- The reference's result, entry by entry. -/
theorem v67_at (h : Fin 4) (r : Fin 128) (n : Fin 16384) (l : Fin 512) (hl : l.val = 128 * h.val + r.val) :
    val_main_v67 (F := Ideal) x0 x1 x2 x3 x4 (ix2 l n)
      = val_main_v47 (F := Ideal) x0 x1 x2 x3 (ix4 0 h r n)
        * Ideal.rsqrt (Ideal.div (∑ s : Fin 128, val_main_v47 (F := Ideal) x0 x1 x2 x3 (ix4 0 h s n) * val_main_v47 (F := Ideal) x0 x1 x2 x3 (ix4 0 h s n)) (Ideal.ofBits .f32 0x43000000#32) + Ideal.ofBits .f32 0x358637BD#32)
        * x4 (ix2 0 r) * Ideal.ofBits .f32 0x3F4CCCCD#32 := by
  rw [val_main_v67_apply, val_main_v66_apply, val_main_v65_apply]
  have e0 : idx_main_v65 (idx_main_v66 (ix2 l n)) = ix4 0 n h r := funext fun a => Fin.ext (by
    match a with
    | ⟨0, _⟩ => rfl
    | ⟨1, _⟩ => show (n.val * 512 + l.val) / 512 % 16384 = n.val; omega
    | ⟨2, _⟩ => show (n.val * 512 + l.val) / 128 % 4 = h.val; omega
    | ⟨3, _⟩ => show (n.val * 512 + l.val) % 128 = r.val; omega)
  rw [e0, val_main_v64_apply, val_main_v62_apply, val_main_v59_apply, v48_at, v58_at, v61_at, v51_at, val_main_v63_apply]; rfl

end Cert.ReferenceIdeal.Attn

end
-- ==== Proof.RefReal.lean ====
/- The reference, in the real numbers its arguments hold. -/
module

public import proofs.«01_k».proof.Proof.Out
public import proofs.«01_k».proof.Proof.RefAt

@[expose] public section

set_option maxRecDepth 16384
set_option Elab.async false

noncomputable section

namespace Cert.KernelIdeal.Attn

open Cert.KernelIdeal Cert.KernelIdeal.Gen
open Idealize.ShloMosaic
open Idealize.ShloMosaic.TcCoe

open Cert.ReferenceIdeal.Read Cert.ReferenceIdeal.Attn

variable (x0 x1 : (⟨Cert.ReferenceIdeal.S1x16384x4x2x64, .f32⟩ : BufTy).Contents (Elt Ideal)) (x2 : (⟨Cert.ReferenceIdeal.S1x16384x4x128, .f32⟩ : BufTy).Contents (Elt Ideal))
  (x3 : (⟨Cert.ReferenceIdeal.S1x4x64, .f32⟩ : BufTy).Contents (Elt Ideal))

/-! ## The reference in real numbers -/

/-- The map `e` of head `h`. -/
abbrev mp (h : Fin 4) (e : Fin 2) : Fin 8 := ⟨2 * h.val + e.val, by omega⟩

/-- Queries, keys and values of the reference are these real numbers, in the kernel's order. -/
structure Reads (Q K V : Fin 512 → ℕ → ℝ) : Prop where
  q : ∀ (h : Fin 4) (e : Fin 2) (d : Fin 64) (n : Fin 16384), x0 (ix5 0 n h e d) = ((Q (hd (mp h e) d) n.val : ℝ) : EReal)
  k : ∀ (h : Fin 4) (e : Fin 2) (d : Fin 64) (n : Fin 16384), x1 (ix5 0 n h e d) = ((K (hd (mp h e) d) n.val : ℝ) : EReal)
  v : ∀ (h : Fin 4) (r : Fin 128) (n : Fin 16384), x2 (ix4 0 n h r) = ((V (vd (ev h) ⟨r.val, by omega⟩ r.isLt) n.val : ℝ) : EReal)

variable {Q K V : Fin 512 → ℕ → ℝ}

/-- The natural score of key `k` against query `n`. -/
def nat (Q K : Fin 512 → ℕ → ℝ) (u : Fin 8) (k n : ℕ) : ℝ := (∑ d : Fin 64, Q (hd u d) n * K (hd u d) k) * (1 / 8)

theorem eighth : Ideal.ofBits .f32 0x3E000000#32 = ((1 / 8 : ℝ) : EReal) := by
  simp [Ideal.ofBits, Ideal.ieee]
  norm_num
  rw [← EReal.coe_mul]
  norm_num

theorem minf : Ideal.ofBits .f32 0xFF800000#32 = ⊥ := by simp [Ideal.ofBits, Ideal.ieee]

theorem tiny : ∃ a : ℝ, Ideal.ofBits .f32 0x0DA24260#32 = (a : EReal) ∧ a ≤ 1 := by
  refine ⟨_, (by simp [Ideal.ofBits, Ideal.ieee]; rfl), ?_⟩
  norm_num

theorem wt_exp (u : Fin 8) (k n : ℕ) : wt Q K u k n = if k ≤ n then Real.exp (nat Q K u k n) else 0 := by
  unfold wt
  split
  · have e : sig Q K u k n = nat Q K u k n * (Real.log 2)⁻¹ := by
      unfold sig nat
      rw [Finset.sum_mul, Finset.sum_mul]
      exact Finset.sum_congr rfl fun d _ => by ring
    have h2 : Real.log 2 ≠ 0 := ne_of_gt (Real.log_pos (by norm_num))
    rw [e, show Real.rpow 2 (nat Q K u k n * (Real.log 2)⁻¹) = (2 : ℝ) ^ (nat Q K u k n * (Real.log 2)⁻¹) from rfl, Real.rpow_def_of_pos (by norm_num)]
    congr 1
    field_simp
  · rfl

section
variable (H : Reads x0 x1 x2 Q K V)
include H

theorem v21_real (h : Fin 4) (e : Fin 2) (n k : Fin 16384) :
    val_main_v21 (F := Ideal) x0 x1 (ix5 0 h e n k) = ((nat Q K (mp h e) k.val n.val : ℝ) : EReal) := by
  rw [v21_at, eighth]
  unfold nat
  rw [EReal.coe_mul, coe_sum']
  refine congrArg (· * ((1 / 8 : ℝ) : EReal)) (Finset.sum_congr rfl fun d _ => ?_)
  rw [H.q, H.k, ← EReal.coe_mul]

theorem v28_real (h : Fin 4) (e : Fin 2) (n : Fin 16384) :
    ∃ k0 : Fin 16384, k0.val ≤ n.val ∧ val_main_v28 (F := Ideal) x0 x1 (ix4 0 h e n) = ((nat Q K (mp h e) k0.val n.val : ℝ) : EReal) := by
  rw [v28_at, show Ideal.ofBits .f32 0xFF800000#32 = Ideal.ofBits .f32 4286578688#32 from rfl, fold_max]
  obtain ⟨k0, -, hk⟩ := Finset.exists_mem_eq_sup (Finset.univ : Finset (Fin 16384)) ⟨n, Finset.mem_univ n⟩ (fun k => val_main_v27 (F := Ideal) x0 x1 (ix5 0 h e n k))
  have hn : val_main_v27 (F := Ideal) x0 x1 (ix5 0 h e n n) ≤ Finset.univ.sup (fun k => val_main_v27 (F := Ideal) x0 x1 (ix5 0 h e n k)) :=
    Finset.le_sup (f := fun k => val_main_v27 (F := Ideal) x0 x1 (ix5 0 h e n k)) (Finset.mem_univ n)
  rw [hk] at hn ⊢
  rw [v27_at, if_pos (le_refl _), v21_real x0 x1 x2 H, v27_at] at hn
  by_cases hl : k0.val ≤ n.val
  · exact ⟨k0, hl, by rw [v27_at, if_pos hl, v21_real x0 x1 x2 H]⟩
  · rw [if_neg hl, minf] at hn
    exact absurd (le_bot_iff.mp hn) (EReal.coe_ne_bot _)

/-- A weight of the reference is the weight of the kernel over their sum. -/
theorem v39_real (h : Fin 4) (e : Fin 2) (n k : Fin 16384) :
    val_main_v39 (F := Ideal) x0 x1 (ix5 0 h e n k)
      = ((wt Q K (mp h e) k.val n.val / ∑ k' : Fin 16384, wt Q K (mp h e) k'.val n.val : ℝ) : EReal) := by
  obtain ⟨k0, hk0, hM⟩ := v28_real x0 x1 x2 H h e n
  generalize hMM : nat Q K (mp h e) k0.val n.val = M at hM
  have h33 : ∀ k : Fin 16384, val_main_v33 (F := Ideal) x0 x1 (ix5 0 h e n k) = ((wt Q K (mp h e) k.val n.val * Real.exp (-M) : ℝ) : EReal) := fun k => by
    rw [v33_at, wt_exp]
    by_cases hk : k.val ≤ n.val
    · rw [if_pos hk, if_pos hk, v27_at, if_pos hk, v21_real x0 x1 x2 H, hM, ← EReal.coe_sub, Ideal.exp_coe, ← Real.exp_add, sub_eq_add_neg]
    · rw [if_neg hk, if_neg hk, zero_mul, zero32]; rfl
  have h34 : val_main_v34 (F := Ideal) x0 x1 (ix4 0 h e n) = (((∑ k' : Fin 16384, wt Q K (mp h e) k'.val n.val) * Real.exp (-M) : ℝ) : EReal) := by
    rw [v34_at, zero32, zero_add, Finset.sum_mul, coe_sum']
    exact Finset.sum_congr rfl fun k _ => h33 k
  have one_le : 1 ≤ (∑ k' : Fin 16384, wt Q K (mp h e) k'.val n.val) * Real.exp (-M) := by
    rw [Finset.sum_mul]
    have e0 : wt Q K (mp h e) k0.val n.val * Real.exp (-M) = 1 := by rw [wt_exp, if_pos hk0, hMM, ← Real.exp_add, add_neg_cancel, Real.exp_zero]
    rw [← e0]
    exact Finset.single_le_sum (f := fun k' : Fin 16384 => wt Q K (mp h e) k'.val n.val * Real.exp (-M))
      (fun k _ => mul_nonneg (wt_nonneg Q K _ _ _) (Real.exp_pos _).le) (Finset.mem_univ k0)
  obtain ⟨a, ha, ha1⟩ := tiny
  rw [v39_at, h33, h34, ha, max_eq_left (by exact_mod_cast le_trans ha1 one_le), Ideal.div_coe (by linarith), ← EReal.coe_mul]
  refine congrArg (fun x : ℝ => (x : EReal)) ?_
  have hE := Real.exp_pos (-M)
  have hS : (∑ k' : Fin 16384, wt Q K (mp h e) k'.val n.val) ≠ 0 := fun h0 => by rw [h0, zero_mul] at one_le; linarith
  field_simp

end

/-- The sums over the blocks up to a query's own are the sums over all the keys: a later key weighs nothing. -/
theorem part_full (u : Fin 8) (n j : ℕ) (r : Fin 144) (hn : n < 512 * j) (hj : j ≤ 32) :
    part Q K V u n j r = ∑ k : Fin 16384, vr V u r k.val * wt Q K u k.val n := by
  unfold part
  have e : ∑ k : Fin 16384, vr V u r k.val * wt Q K u k.val n = ∑ k ∈ Finset.range 16384, vr V u r k * wt Q K u k n :=
    (Finset.sum_range (n := 16384) (fun k => vr V u r k * wt Q K u k n)).symm
  rw [e]
  refine Finset.sum_subset (Finset.range_subset_range.mpr (by omega)) (fun k _ hk => ?_)
  rw [Finset.mem_range] at hk
  unfold wt
  rw [if_neg (by omega), mul_zero]

/-- The head's output before the normalisation is the kernel's. -/
theorem v47_real (H : Reads x0 x1 x2 Q K V) (l : ℝ) (hl : lamR x3 = l) (h : Fin 4) (r : Fin 128) (n : Fin 16384) (j : ℕ) (hn : n.val < 512 * j) (hj : j ≤ 32) :
    val_main_v47 (F := Ideal) x0 x1 x2 x3 (ix4 0 h r n) = ((dif Q K V l h n.val j r : ℝ) : EReal) := by
  rw [v47_at]
  have e : ∀ k : Fin 16384, x2 (ix4 0 k h r) * (val_main_v39 (F := Ideal) x0 x1 (ix5 0 h 0 n k) - lamR x3 * val_main_v39 (F := Ideal) x0 x1 (ix5 0 h 1 n k))
      = ((V (vd (ev h) ⟨r.val, by omega⟩ r.isLt) k.val * (wt Q K (ev h) k.val n.val / (∑ k' : Fin 16384, wt Q K (ev h) k'.val n.val)
          - l * (wt Q K (od h) k.val n.val / ∑ k' : Fin 16384, wt Q K (od h) k'.val n.val)) : ℝ) : EReal) := fun k => by
    rw [H.v, v39_real x0 x1 x2 H, v39_real x0 x1 x2 H, hl, ← EReal.coe_mul, ← EReal.coe_sub, ← EReal.coe_mul]
    rfl
  rw [Finset.sum_congr rfl fun k _ => e k, ← coe_sum']
  refine congrArg (fun x : ℝ => (x : EReal)) ?_
  unfold dif
  rw [part_full _ _ _ _ hn hj, part_full _ _ _ _ hn hj, part_full _ _ _ _ hn hj, part_full _ _ _ _ hn hj]
  have one : ∀ (u : Fin 8) (k : ℕ), vr V u 128 k = 1 := fun u k => by unfold vr; rw [dif_neg (show ¬((128 : Fin 144).val < 128) by decide)]
  have vev : ∀ k : ℕ, vr V (ev h) ⟨r.val, by omega⟩ k = V (vd (ev h) ⟨r.val, by omega⟩ r.isLt) k := fun k => by unfold vr; rw [dif_pos r.isLt]
  have vod : ∀ k : ℕ, vr V (od h) ⟨r.val, by omega⟩ k = V (vd (ev h) ⟨r.val, by omega⟩ r.isLt) k := fun k => by
    unfold vr; rw [dif_pos r.isLt]
    congr 1
    refine Fin.ext ?_
    show shift (128 * ((2 * h.val + 1) / 2)) r.val = shift (128 * ((2 * h.val) / 2)) r.val
    rw [show (2 * h.val + 1) / 2 = (2 * h.val) / 2 by omega]
  simp only [one, vev, vod, one_mul]
  rw [Finset.sum_div, Finset.sum_div, Finset.mul_sum, ← Finset.sum_sub_distrib]
  exact Finset.sum_congr rfl fun k _ => by ring

end Cert.KernelIdeal.Attn

end
-- ==== Proof.Host.lean ====
/- What the call reads, out of the arguments. -/
module

public import proofs.«01_k».proof.Proof.Run
public import Idealize.ShloMosaic.Lib.Pointwise

@[expose] public section

set_option maxRecDepth 16384
set_option Elab.async false

noncomputable section

namespace Cert.KernelIdeal.Attn

open Cert.KernelIdeal Cert.KernelIdeal.Gen
open Idealize.ShloMosaic
open Idealize.ShloMosaic.TcCoe

variable (m : (ℓ : Loc nD τ sig) → Buf (Elt Ideal) ℓ) (c : Dev nD)

/-! ## The arrays the call reads, as the host's lines make them of the arguments -/

theorem A0_eq : A₀ m 0 c = (truncf .bf16 (transpose S512x16384 [1, 0] (shapeCast S16384x512 (m ((c : Thread nD τ).loc main_arg0) : FVec Ideal S1x16384x4x2x64 .f32)
    shapeCasts_S1x16384x4x2x64_S16384x512) transposes_S16384x512_S512x16384_1_0) bitsLt_bf16_f32 : FVec Ideal S512x16384 .bf16) := rfl
theorem A1_eq : A₀ m 1 c = (truncf .bf16 (shapeCast S16384x512 (m ((c : Thread nD τ).loc main_arg1) : FVec Ideal S1x16384x4x2x64 .f32)
    shapeCasts_S1x16384x4x2x64_S16384x512) bitsLt_bf16_f32 : FVec Ideal S16384x512 .bf16) := rfl
theorem A2_eq : A₀ m 2 c = (truncf .bf16 (transpose S512x16384 [1, 0] (shapeCast S16384x512 (m ((c : Thread nD τ).loc main_arg2) : FVec Ideal S1x16384x4x128 .f32)
    shapeCasts_S1x16384x4x128_S16384x512) transposes_S16384x512_S512x16384_1_0) bitsLt_bf16_f32 : FVec Ideal S512x16384 .bf16) := rfl
theorem A3_eq : A₀ m 3 c = shapeCast S4x64 (m ((c : Thread nD τ).loc main_arg3) : FVec Ideal S1x4x64 .f32) shapeCasts_S1x4x64_S4x64 := rfl
theorem A4_eq : A₀ m 4 c = shapeCast S128x1 (shapeCast S128 (m ((c : Thread nD τ).loc main_arg4) : FVec Ideal S1x128 .f32) shapeCasts_S1x128_S128) shapeCasts_S128_S128x1 := rfl

theorem cast5 (x : FVec Ideal S1x16384x4x2x64 .f32) (l : Fin 512) (n : Fin 16384) (h : Fin 4) (e : Fin 2) (d : Fin 64) (hl : l.val = 128 * h.val + 64 * e.val + d.val) :
    shapeCast S16384x512 x shapeCasts_S1x16384x4x2x64_S16384x512 (ix2 n l) = x (ix5 0 n h e d) := by
  refine shapeCast_apply x _ _ (ix5 0 n h e d) ?_
  rw [Shape.rowMajor_val_five, Shape.rowMajor_val_two]
  show (((0 * 16384 + n.val) * 4 + h.val) * 2 + e.val) * 64 + d.val = n.val * 512 + l.val
  omega

theorem cast4 (x : FVec Ideal S1x16384x4x128 .f32) (l : Fin 512) (n : Fin 16384) (h : Fin 4) (r : Fin 128) (hl : l.val = 128 * h.val + r.val) :
    shapeCast S16384x512 x shapeCasts_S1x16384x4x128_S16384x512 (ix2 n l) = x (ix4 0 n h r) := by
  refine shapeCast_apply x _ _ (ix4 0 n h r) ?_
  rw [Shape.rowMajor_val_four, Shape.rowMajor_val_two]
  show ((0 * 16384 + n.val) * 4 + h.val) * 128 + r.val = n.val * 512 + l.val
  omega

theorem tr (x : FVec Ideal S16384x512 .f32) (l : Fin 512) (n : Fin 16384) :
    transpose S512x16384 [1, 0] x transposes_S16384x512_S512x16384_1_0 (ix2 l n) = x (ix2 n l) :=
  transpose_apply _ x _ (ix2 l n) (ix2 n l) (fun b => by match b with | ⟨0, _⟩ => rfl | ⟨1, _⟩ => rfl)

theorem A0_at (l : Fin 512) (n : Fin 16384) (h : Fin 4) (e : Fin 2) (d : Fin 64) (hl : l.val = 128 * h.val + 64 * e.val + d.val) :
    A₀ m 0 c (ix2 l n) = (m ((c : Thread nD τ).loc main_arg0) : FVec Ideal S1x16384x4x2x64 .f32) (ix5 0 n h e d) := by
  rw [A0_eq]
  exact (tr _ l n).trans (cast5 _ l n h e d hl)

theorem A1_at (l : Fin 512) (n : Fin 16384) (h : Fin 4) (e : Fin 2) (d : Fin 64) (hl : l.val = 128 * h.val + 64 * e.val + d.val) :
    A₀ m 1 c (ix2 n l) = (m ((c : Thread nD τ).loc main_arg1) : FVec Ideal S1x16384x4x2x64 .f32) (ix5 0 n h e d) := by
  rw [A1_eq]
  exact cast5 _ l n h e d hl

theorem A2_at (l : Fin 512) (n : Fin 16384) (h : Fin 4) (r : Fin 128) (hl : l.val = 128 * h.val + r.val) :
    A₀ m 2 c (ix2 l n) = (m ((c : Thread nD τ).loc main_arg2) : FVec Ideal S1x16384x4x128 .f32) (ix4 0 n h r) := by
  rw [A2_eq]
  exact (tr _ l n).trans (cast4 _ l n h r hl)

theorem A3_at (a : Fin 4) (d : Fin 64) : A₀ m 3 c (ix2 a d) = (m ((c : Thread nD τ).loc main_arg3) : FVec Ideal S1x4x64 .f32) (ix3 0 a d) := by
  rw [A3_eq]
  refine shapeCast_apply _ _ _ (ix3 0 a d) ?_
  rw [Shape.rowMajor_val_three, Shape.rowMajor_val_two]
  show (0 * 4 + a.val) * 64 + d.val = a.val * 64 + d.val
  omega

theorem A4_at (r : Fin 128) : A₀ m 4 c (ix2 r 0) = (m ((c : Thread nD τ).loc main_arg4) : FVec Ideal S1x128 .f32) (ix2 0 r) := by
  rw [A4_eq]
  refine (shapeCast_apply _ _ _ (ix1 r) ?_).trans (shapeCast_apply _ _ _ (ix2 0 r) ?_)
  · rw [Shape.rowMajor_val_two, Shape.rowMajor_val_one]
    show r.val = r.val * 1 + 0
    omega
  · rw [Shape.rowMajor_val_two, Shape.rowMajor_val_one]
    show 0 * 128 + r.val = r.val
    omega

end Cert.KernelIdeal.Attn

end
-- ==== Proof.Finite.lean ====
/- The precondition, read: the arguments it names hold real numbers. -/
module

public import proofs.«01_k».proof.Pre_finite
public import Idealize.ShloMosaic.Lib.ReduceAll
public import Idealize.ShloMosaic.Lib.Pointwise
public import Idealize.ShloMosaic.PureOps.Ideal

@[expose] public section

set_option maxRecDepth 16384
set_option Elab.async false

noncomputable section

namespace Cert.Pre_finite

open Idealize.ShloMosaic
open Idealize.ShloMosaic.TcCoe

theorem inf32 : Ideal.ofBits .f32 0x7F800000#32 = ⊤ := by simp [Ideal.ofBits, Ideal.ieee]

/-- A value whose magnitude is below infinity is a real number. -/
theorem real_of_olt (a : EReal) (h : FloatOps.cmpf (F := Ideal) (φ := .f32) .olt (FloatOps.absf (F := Ideal) (φ := .f32) a) (Ideal.ofBits .f32 0x7F800000#32) = 1#1) :
    ((a.toReal : ℝ) : EReal) = a := by
  rw [inf32] at h
  have h2 : max a (-a) < ⊤ := by
    by_contra hn
    have : FloatOps.cmpf (F := Ideal) (φ := .f32) .olt (FloatOps.absf (F := Ideal) (φ := .f32) a) (⊤ : EReal) = 0#1 := by
      show BitVec.ofBool (decide (max a (-a) < ⊤)) = 0#1
      rw [decide_eq_false hn]; rfl
    rw [this] at h
    exact absurd h (by decide)
  refine EReal.coe_toReal (fun e => ?_) (fun e => ?_)
  · rw [e] at h2; exact absurd (lt_of_le_of_lt (le_max_left _ _) h2) (lt_irrefl _)
  · rw [e] at h2
    have := lt_of_le_of_lt (le_max_right _ _) h2
    rw [EReal.neg_bot] at this
    exact absurd this (lt_irrefl _)

instance : Subsingleton S_.Idx := ⟨fun a b => funext fun i => i.elim0⟩

/-- The operations of the precondition fit. -/
theorem facts : Facts where
  bcast_S_S1x16384x4x2x64 := by decide
  reducesTo_S1x16384x4x2x64_S_d0_1_2_3_4 := by decide
  h_S_ := by decide
  bcast_S_S1x16384x4x128 := by decide
  reducesTo_S1x16384x4x128_S_d0_1_2_3 := by decide
  bcast_S_S1x4x64 := by decide
  reducesTo_S1x4x64_S_d0_1_2 := by decide

theorem and_one {a b : BitVec 1} (h : a &&& b = 1#1) : a = 1#1 ∧ b = 1#1 := by
  revert a b; decide

variable [Facts]

/-- Where the precondition holds, the first four arguments hold real numbers. -/
theorem reals (x0 x1 : FVec Ideal S1x16384x4x2x64 .f32) (x2 : FVec Ideal S1x16384x4x128 .f32) (x3 : FVec Ideal S1x4x64 .f32) (x4 : FVec Ideal S1x128 .f32)
    (h : fn (F := Ideal) x0 x1 x2 x3 x4 = fun _ => 1#1) :
    (∀ i, (((x0 i : EReal).toReal : ℝ) : EReal) = x0 i) ∧ (∀ i, (((x1 i : EReal).toReal : ℝ) : EReal) = x1 i)
      ∧ (∀ i, (((x2 i : EReal).toReal : ℝ) : EReal) = x2 i) ∧ (∀ i, (((x3 i : EReal).toReal : ℝ) : EReal) = x3 i) := by
  have h0 := congrFun h (fun i => i.elim0)
  obtain ⟨h0, k3⟩ := and_one h0
  obtain ⟨h0, k2⟩ := and_one h0
  obtain ⟨k0, k1⟩ := and_one h0
  exact ⟨fun i => real_of_olt _ (Host.reduce_andi_all _ _ _ _ _ k0 i), fun i => real_of_olt _ (Host.reduce_andi_all _ _ _ _ _ k1 i),
    fun i => real_of_olt _ (Host.reduce_andi_all _ _ _ _ _ k2 i), fun i => real_of_olt _ (Host.reduce_andi_all _ _ _ _ _ k3 i)⟩

end Cert.Pre_finite

end
-- ==== Proof.Equal.lean ====
/- The kernel computes what the reference computes. -/
module

public import proofs.«01_k».proof.Proof.RefReal
public import proofs.«01_k».proof.Proof.Host
public import proofs.«01_k».proof.Proof.Finite
public import proofs.«01_k».proof.Proof.Frames
public import proofs.«01_k».proof.Proof.Gen.ReferenceIdeal.Run
public import proofs.«01_k».proof.Defs

@[expose] public section

set_option maxRecDepth 16384
set_option Elab.async false

noncomputable section

namespace Cert.KernelIdeal.Attn

open Cert.KernelIdeal Cert.KernelIdeal.Gen
open Idealize.ShloMosaic
open Idealize.ShloMosaic.TcCoe

open Idealize.SL.Sem Cert.ReferenceIdeal.Read Cert.ReferenceIdeal.Attn

/-! ## The real numbers of the arguments, in the order the kernel holds them -/

abbrev X5 : Type := (⟨Cert.ReferenceIdeal.S1x16384x4x2x64, .f32⟩ : BufTy).Contents (Elt Ideal)
abbrev X4 : Type := (⟨Cert.ReferenceIdeal.S1x16384x4x128, .f32⟩ : BufTy).Contents (Elt Ideal)
abbrev X3 : Type := (⟨Cert.ReferenceIdeal.S1x4x64, .f32⟩ : BufTy).Contents (Elt Ideal)
abbrev X2 : Type := (⟨Cert.ReferenceIdeal.S1x128, .f32⟩ : BufTy).Contents (Elt Ideal)

/-- Lane `l` of a query or key. -/
def re5 (x : X5) (l : Fin 512) (n : ℕ) : ℝ :=
  if hn : n < 16384 then (x (ix5 0 ⟨n, hn⟩ ⟨l.val / 128, by omega⟩ ⟨l.val / 64 % 2, Nat.mod_lt _ (by decide)⟩ ⟨l.val % 64, Nat.mod_lt _ (by decide)⟩) : EReal).toReal else 0
/-- Lane `l` of the values. -/
def re4 (x : X4) (l : Fin 512) (n : ℕ) : ℝ :=
  if hn : n < 16384 then (x (ix4 0 ⟨n, hn⟩ ⟨l.val / 128, by omega⟩ ⟨l.val % 128, Nat.mod_lt _ (by decide)⟩) : EReal).toReal else 0

theorem re5_at (x : X5) (hx : ∀ i, (((x i : EReal).toReal : ℝ) : EReal) = x i) (l : Fin 512) (n : Fin 16384) (h : Fin 4) (e : Fin 2) (d : Fin 64)
    (hl : l.val = 128 * h.val + 64 * e.val + d.val) : x (ix5 0 n h e d) = ((re5 x l n.val : ℝ) : EReal) := by
  unfold re5
  rw [dif_pos n.isLt, hx]
  congr 1
  rw [show (⟨l.val / 128, by omega⟩ : Fin 4) = h from Fin.ext (by show l.val / 128 = h.val; omega),
    show (⟨l.val / 64 % 2, Nat.mod_lt _ (by decide)⟩ : Fin 2) = e from Fin.ext (by show l.val / 64 % 2 = e.val; omega),
    show (⟨l.val % 64, Nat.mod_lt _ (by decide)⟩ : Fin 64) = d from Fin.ext (by show l.val % 64 = d.val; omega)]

theorem re4_at (x : X4) (hx : ∀ i, (((x i : EReal).toReal : ℝ) : EReal) = x i) (l : Fin 512) (n : Fin 16384) (h : Fin 4) (r : Fin 128)
    (hl : l.val = 128 * h.val + r.val) : x (ix4 0 n h r) = ((re4 x l n.val : ℝ) : EReal) := by
  unfold re4
  rw [dif_pos n.isLt, hx]
  congr 1
  rw [show (⟨l.val / 128, by omega⟩ : Fin 4) = h from Fin.ext (by show l.val / 128 = h.val; omega),
    show (⟨l.val % 128, Nat.mod_lt _ (by decide)⟩ : Fin 128) = r from Fin.ext (by show l.val % 128 = r.val; omega)]

variable (x0 x1 : X5) (x2 : X4) (x3 : X3) (x4 : X2)

theorem reads_of (h0 : ∀ i, (((x0 i : EReal).toReal : ℝ) : EReal) = x0 i) (h1 : ∀ i, (((x1 i : EReal).toReal : ℝ) : EReal) = x1 i)
    (h2 : ∀ i, (((x2 i : EReal).toReal : ℝ) : EReal) = x2 i) : Reads x0 x1 x2 (re5 x0) (re5 x1) (re4 x2) where
  q h e d n := re5_at x0 h0 _ n h e d (by show shift (64 * (2 * h.val + e.val)) d.val = _; rw [shift_eq]; omega)
  k h e d n := re5_at x1 h1 _ n h e d (by show shift (64 * (2 * h.val + e.val)) d.val = _; rw [shift_eq]; omega)
  v h r n := re4_at x2 h2 _ n h r (by show shift (128 * (2 * h.val / 2)) r.val = _; rw [shift_eq]; omega)

/-- The weight of the second map is a real number. -/
theorem lam_real (h3 : ∀ i, (((x3 i : EReal).toReal : ℝ) : EReal) = x3 i) : ∃ l : ℝ, lamR x3 = (l : EReal) := by
  have s : ∀ a b : Fin 4, ∃ s : ℝ, ∑ d : Fin 64, x3 (ix3 0 a d) * x3 (ix3 0 b d) = (s : EReal) := fun a b =>
    ⟨∑ d : Fin 64, (x3 (ix3 0 a d) : EReal).toReal * (x3 (ix3 0 b d) : EReal).toReal, by
      rw [coe_sum']
      exact Finset.sum_congr rfl fun d _ => by rw [EReal.coe_mul, h3, h3]⟩
  have k : ∃ k : ℝ, Ideal.ofBits .f32 0x3E4CCCCD#32 = (k : EReal) := by
    refine ⟨_, (by simp [Ideal.ofBits, Ideal.ieee]; rfl)⟩
  obtain ⟨s0, e0⟩ := s 0 1
  obtain ⟨s1, e1⟩ := s 2 3
  obtain ⟨k, ek⟩ := k
  refine ⟨Real.exp s0 - Real.exp s1 + k, ?_⟩
  unfold lamR
  rw [e0, e1, ek, Ideal.exp_coe, Ideal.exp_coe, ← EReal.coe_sub, ← EReal.coe_add]

/-- The result array is the reference's result. -/
theorem res_eq {Q K V : Fin 512 → ℕ → ℝ} (H : Reads x0 x1 x2 Q K V) (l : ℝ) (hl : lamR x3 = l) (g : S128x1.Idx → EReal) (hg : ∀ r : Fin 128, g (ix2 r 0) = x4 (ix2 0 r)) :
    (resG Q K V l g : S512x16384.Idx → EReal) = val_main_v67 (F := Ideal) x0 x1 x2 x3 x4 := by
  have key : ∀ (a : Fin 512) (n : Fin 16384), resG Q K V l g (ix2 a n) = val_main_v67 (F := Ideal) x0 x1 x2 x3 x4 (ix2 a n) := fun a n => by
    have hj : n.val / 512 + 1 ≤ 32 := by omega
    have hn : n.val < 512 * (n.val / 512 + 1) := by omega
    rw [v67_at x0 x1 x2 x3 x4 ⟨a.val / 128, by omega⟩ ⟨a.val % 128, Nat.mod_lt _ (by decide)⟩ n a (by show a.val = 128 * (a.val / 128) + a.val % 128; omega)]
    have e : ∀ s : Fin 128, val_main_v47 (F := Ideal) x0 x1 x2 x3 (ix4 0 ⟨a.val / 128, by omega⟩ s n)
        = ((dif Q K V l ⟨a.val / 128, by omega⟩ n.val (n.val / 512 + 1) s : ℝ) : EReal) := fun s =>
      v47_real x0 x1 x2 x3 H l hl ⟨a.val / 128, by omega⟩ s n (n.val / 512 + 1) hn hj
    simp only [e]
    rw [← hg]
    rfl
  funext y
  have ey : y = (ix2 (y 0) (y 1) : S512x16384.Idx) := funext fun a => by
    match a with
    | ⟨0, _⟩ => rfl
    | ⟨1, _⟩ => rfl
  rw [ey]
  exact key (y 0) (y 1)

/-! ## The two runs -/

section
variable (m : (ℓ : Loc nD τ Cert.KernelIdeal.sig) → Buf (Elt Ideal) ℓ) (c : Dev nD)

abbrev g0 : X5 := m ((c : Thread nD τ).loc main_arg0)
abbrev g1 : X5 := m ((c : Thread nD τ).loc main_arg1)
abbrev g2 : X4 := m ((c : Thread nD τ).loc main_arg2)
abbrev g3 : X3 := m ((c : Thread nD τ).loc main_arg3)
abbrev g4 : X2 := m ((c : Thread nD τ).loc main_arg4)

theorem holds (h0 : ∀ i, (((g0 m c i : EReal).toReal : ℝ) : EReal) = g0 m c i) (h1 : ∀ i, (((g1 m c i : EReal).toReal : ℝ) : EReal) = g1 m c i)
    (h2 : ∀ i, (((g2 m c i : EReal).toReal : ℝ) : EReal) = g2 m c i) : Holds (A₀ m) (re5 (g0 m c)) (re5 (g1 m c)) (re4 (g2 m c)) c where
  q l n := (A0_at m c l n ⟨l.val / 128, by omega⟩ ⟨l.val / 64 % 2, by omega⟩ ⟨l.val % 64, by omega⟩ (by show l.val = 128 * (l.val / 128) + 64 * (l.val / 64 % 2) + l.val % 64; omega)).trans
    (re5_at (g0 m c) h0 l n ⟨l.val / 128, by omega⟩ ⟨l.val / 64 % 2, by omega⟩ ⟨l.val % 64, by omega⟩ (by show l.val = 128 * (l.val / 128) + 64 * (l.val / 64 % 2) + l.val % 64; omega))
  k l n := (A1_at m c l n ⟨l.val / 128, by omega⟩ ⟨l.val / 64 % 2, by omega⟩ ⟨l.val % 64, by omega⟩ (by show l.val = 128 * (l.val / 128) + 64 * (l.val / 64 % 2) + l.val % 64; omega)).trans
    (re5_at (g1 m c) h1 l n ⟨l.val / 128, by omega⟩ ⟨l.val / 64 % 2, by omega⟩ ⟨l.val % 64, by omega⟩ (by show l.val = 128 * (l.val / 128) + 64 * (l.val / 64 % 2) + l.val % 64; omega))
  v l n := (A2_at m c l n ⟨l.val / 128, by omega⟩ ⟨l.val % 128, by omega⟩ (by show l.val = 128 * (l.val / 128) + l.val % 128; omega)).trans
    (re4_at (g2 m c) h2 l n ⟨l.val / 128, by omega⟩ ⟨l.val % 128, by omega⟩ (by show l.val = 128 * (l.val / 128) + l.val % 128; omega))

theorem lam_eq : lamE (A₀ m 3 c) = lamR (g3 m c) := by
  unfold lamE lamR
  have e : ∀ (a : Fin 4) (d : Fin 64), A₀ m 3 c (ix2 a d) = g3 m c (ix3 0 a d) := fun a d => A3_at m c a d
  simp only [e]

/-- The call's result array ends at the reference's value of the arguments. -/
theorem array_eq (h0 : ∀ i, (((g0 m c i : EReal).toReal : ℝ) : EReal) = g0 m c i) (h1 : ∀ i, (((g1 m c i : EReal).toReal : ℝ) : EReal) = g1 m c i)
    (h2 : ∀ i, (((g2 m c i : EReal).toReal : ℝ) : EReal) = g2 m c i) (h3 : ∀ i, (((g3 m c i : EReal).toReal : ℝ) : EReal) = g3 m c i) :
    (dats (A₀ m) 0 c).arrAt (5 : Fin 6) grid0.N = val_main_v67 (F := Ideal) (g0 m c) (g1 m c) (g2 m c) (g3 m c) (g4 m c) := by
  obtain ⟨l, hl⟩ := lam_real (g3 m c) h3
  exact (final (holds m c h0 h1 h2) l ((lam_eq m c).trans hl)).trans
    (res_eq (g0 m c) (g1 m c) (g2 m c) (g3 m c) (g4 m c) (reads_of _ _ _ h0 h1 h2) l hl (A₀ m 4 c) (fun r => A4_at m c r))

end

/-- Where the first four arguments are finite, the kernel's result is the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hp hag
  refine ⟨fun c => val_main_v67 (F := Ideal) (g0 m c) (g1 m c) (g2 m c) (g3 m c) (g4 m c), ?_, ?_⟩
  · refine (θ_run _ _ _).mono (fun r h c => ⟨?_, args_kept m r h.1 c⟩) (run_main m g)
    have hr := @Cert.Pre_finite.reals Cert.Pre_finite.facts (g0 m c) (g1 m c) (g2 m c) (g3 m c) (g4 m c) (hp c)
    exact ((h.1 c).1 (5 : Fin 6)).trans (array_eq m c hr.1 hr.2.1 hr.2.2.1 hr.2.2.2)
  · refine (θ_run _ _ _).mono (fun r h c => ⟨?_, (h c).2⟩) (Cert.ReferenceIdeal.Value.run (F := Ideal) m' g')
    have ha := hag c
    refine ((h c).1.trans (val_main_v67_eq (F := Ideal) m' c)).trans ?_
    rw [ha.1, ha.2.1, ha.2.2.1, ha.2.2.2.1, ha.2.2.2.2]

end Cert.KernelIdeal.Attn

end
-- ==== Proof.lean ====
/- The differential attention of the prompt: the claims, each from the module that proves it. -/
module

public import proofs.«01_k».proof.Defs
public import proofs.«01_k».proof.Proof.Gen.ReferenceIdeal.Run
public import proofs.«01_k».proof.Proof.Gen.ReferenceIdeal.Read
public import proofs.«01_k».proof.Proof.Frames
public import proofs.«01_k».proof.Proof.Equal

@[expose] public section

noncomputable section

namespace Cert.Proof

open Idealize.ShloMosaic Idealize.SL.Sem

/-- The reference declares no semaphore, so no counter of its machine can be off zero. -/
theorem frame_ref : Cert.quiescent_ReferenceIdeal := fun m g _ =>
  (θ_run _ _ _).mono (fun _ h => ⟨fun c => (h c).2, Idealize.ShloMosaic.sem_eq_zero_of_no_sems (by decide) _⟩) (Cert.ReferenceIdeal.Value.run (F := Ideal) m g)

/-- Each named constant stands for a word of the printed program. -/
theorem preserves : Cert.preserves_Kernel_KernelIdeal :=
  ⟨IdealRules.named_const.statement Cert.KernelIdeal.κ "mask" .f32 0xF149F2CA#32 ⊥ rfl,
   IdealRules.named_const.statement Cert.KernelIdeal.κ "scale" .f32 0x3E38AA3B#32 (((1 / 8) * (Real.log 2)⁻¹ : ℝ) : EReal) rfl⟩

theorem claim : Cert.Claim :=
  ⟨Cert.Kernel.Gen.facts, Cert.KernelIdeal.Gen.facts, Cert.ReferenceIdeal.Gen.facts, Cert.Pre_finite.facts, Cert.KernelIdeal.Attn.frame_kernel,
  Cert.KernelIdeal.Attn.frame_ideal, fun m g _ => Cert.KernelIdeal.Attn.frame_ideal m g trivial, frame_ref, fun m g _ => frame_ref m g trivial, preserves, Cert.KernelIdeal.Attn.algebraic⟩

end Cert.Proof

end
